-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x4096 : Shape := ⟨2, ![8192, 4096]⟩
abbrev S_ : Shape := ⟨0, ![]⟩
abbrev S1 : Shape := ⟨1, ![1]⟩
abbrev S8192x1024 : Shape := ⟨2, ![8192, 1024]⟩
abbrev S2048x1024 : Shape := ⟨2, ![2048, 1024]⟩
abbrev S1024x1024 : Shape := ⟨2, ![1024, 1024]⟩
abbrev S4096x1024 : Shape := ⟨2, ![4096, 1024]⟩
abbrev S6144x1024 : Shape := ⟨2, ![6144, 1024]⟩
abbrev S2 : Shape := ⟨1, ![2]⟩
abbrev S3 : Shape := ⟨1, ![3]⟩

abbrev nBuf : Space → Nat
  | .hbm => 9
  | .vmem => 7
  | .smem => 1
  | _ => 0

abbrev bufTy : (tb : Table) → Fin (tcTables nBuf tb) → BufTy
  | .hbm, ⟨0, _⟩ => ⟨S2048x8192, .f32⟩
  | .hbm, ⟨1, _⟩ => ⟨S8192x4096, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S4096x1024, .bf16⟩
  | .local _ .vmem, ⟨6, _⟩ => ⟨S6144x1024, .bf16⟩
  | .local _ .smem, ⟨0, _⟩ => ⟨S1, .i32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_0 : BitVec 32 := 0#32
  let v6 : BitVec 1 := Scalar.cmpi .eq arg1 c0_i32_0
  let v7 : BitVec 1 := Scalar.andi v5 v6
  let v8 : BitVec 32 := Scalar.extui v7
  let c0_i32_1 : BitVec 32 := 0#32
  let v9 : BitVec 1 := Scalar.cmpi .ne v8 c0_i32_1
  v9

def k0_dev1 : Nat :=
  let c0_i32_21 : BitVec 32 := 0#32
  let c0_i32_19 : BitVec 32 := 0#32
  let c1_i32_20 : BitVec 32 := 1#32
  let v37 : BitVec 32 := Scalar.muli c0_i32_19 c1_i32_20
  let v38 : BitVec 32 := Scalar.addi c0_i32_21 v37
  v38.toNat
def k0_dev2 : Nat :=
  let c0_i32_21 : BitVec 32 := 0#32
  let c1_i32_19 : BitVec 32 := 1#32
  let c1_i32_20 : BitVec 32 := 1#32
  let v37 : BitVec 32 := Scalar.muli c1_i32_19 c1_i32_20
  let v38 : BitVec 32 := Scalar.addi c0_i32_21 v37
  v38.toNat
def k0_dev3 : Nat :=
  let c0_i32_21 : BitVec 32 := 0#32
  let c2_i32_19 : BitVec 32 := 2#32
  let c1_i32_20 : BitVec 32 := 1#32
  let v37 : BitVec 32 := Scalar.muli c2_i32_19 c1_i32_20
  let v38 : BitVec 32 := Scalar.addi c0_i32_21 v37
  v38.toNat
def k0_dev4 : Nat :=
  let c0_i32_21 : BitVec 32 := 0#32
  let c3_i32_19 : BitVec 32 := 3#32
  let c1_i32_20 : BitVec 32 := 1#32
  let v37 : BitVec 32 := Scalar.muli c3_i32_19 c1_i32_20
  let v38 : BitVec 32 := Scalar.addi c0_i32_21 v37
  v38.toNat
def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def k0_cond9 (i : grid0.Coords) : BitVec 1 :=
  let arg0 : BitVec 32 := BitVec.ofNat 32 (i 0).val
  let c3_i32 : BitVec 32 := 3#32
  let v24 : BitVec 1 := Scalar.cmpi .slt arg0 c3_i32
  let v25 : BitVec 32 := Scalar.extui v24
  let c0_i32_11 : BitVec 32 := 0#32
  let v26 : BitVec 1 := Scalar.cmpi .ne v25 c0_i32_11
  v26

def k0_off1 (i : grid0.Coords) : Fin 2 → Nat :=
  let arg0 : BitVec 32 := BitVec.ofNat 32 (i 0).val
  let c2_i32 : BitVec 32 := 2#32
  let v30 : BitVec 32 := Scalar.remsi arg0 c2_i32
  let c2048_i32_14 : BitVec 32 := 2048#32
  let v31 : BitVec 32 := Scalar.muli v30 c2048_i32_14
  let v39 : Index := Scalar.indexCast v31
  let c0_20 : Index := 0#32
  ![v39.toNat, 0]
def k0_off2 (i : grid0.Coords) : Fin 1 → Nat :=
  let arg0 : BitVec 32 := BitVec.ofNat 32 (i 0).val
  let c2_i32 : BitVec 32 := 2#32
  let v30 : BitVec 32 := Scalar.remsi arg0 c2_i32
  ![v30.toNat]
def k0_off3 (i : grid0.Coords) : Fin 1 → Nat :=
  let arg0 : BitVec 32 := BitVec.ofNat 32 (i 0).val
  ![arg0.toNat]
def k0_off4 (i : grid0.Coords) : Fin 2 → Nat :=
  let arg0 : BitVec 32 := BitVec.ofNat 32 (i 0).val
  let c2048_i32_21 : BitVec 32 := 2048#32
  let v43 : BitVec 32 := Scalar.muli arg0 c2048_i32_21
  let c0_i32_24 : BitVec 32 := 0#32
  ![v43.toNat, 0]
def k0_off5 (i : grid0.Coords) : Fin 2 → Nat :=
  let arg0 : BitVec 32 := BitVec.ofNat 32 (i 0).val
  let c2_i32 : BitVec 32 := 2#32
  let v30 : BitVec 32 := Scalar.remsi arg0 c2_i32
  let c2048_i32_14 : BitVec 32 := 2048#32
  let v31 : BitVec 32 := Scalar.muli v30 c2048_i32_14
  let c0_i32_25 : BitVec 32 := 0#32
  ![v31.toNat, 0]
def k0_dev5 (i : grid0.Coords) (v0 : BitVec 32) : Nat :=
  let c0_i32_23 : BitVec 32 := 0#32
  let c1_i32 : BitVec 32 := 1#32
  let v1 : BitVec 32 := Scalar.addi v0 c1_i32
  let arg0 : BitVec 32 := BitVec.ofNat 32 (i 0).val
  let v2 : BitVec 32 := Scalar.addi v1 arg0
  let c4_i32 : BitVec 32 := 4#32
  let v3 : BitVec 32 := Scalar.remsi v2 c4_i32
  let c1_i32_22 : BitVec 32 := 1#32
  let v44 : BitVec 32 := Scalar.muli v3 c1_i32_22
  let v45 : BitVec 32 := Scalar.addi c0_i32_23 v44
  v45.toNat

def k0_cond11 (i : grid0.Coords) : BitVec 1 :=
  let arg0 : BitVec 32 := BitVec.ofNat 32 (i 0).val
  let c3_i32_12 : BitVec 32 := 3#32
  let v27 : BitVec 1 := Scalar.cmpi .eq arg0 c3_i32_12
  let v28 : BitVec 32 := Scalar.extui v27
  let c0_i32_13 : BitVec 32 := 0#32
  let v29 : BitVec 1 := Scalar.cmpi .ne v28 c0_i32_13
  v29

def k0_off6 (v0 : BitVec 32) : Fin 2 → Nat :=
  let c2048_i32 : BitVec 32 := 2048#32
  let v4 : BitVec 32 := Scalar.muli v0 c2048_i32
  let c0_i32_19 : BitVec 32 := 0#32
  ![v4.toNat, 0]
def k0_off7 (v0 : BitVec 32) (c0_i32_22 : BitVec 32) : Fin 2 → Nat :=
  let c1_i32_21 : BitVec 32 := 1#32
  let v38 : BitVec 32 := Scalar.subi v0 c1_i32_21
  let v39 : BitVec 32 := Scalar.subi v38 c0_i32_22
  let c4_i32_23 : BitVec 32 := 4#32
  let v40 : BitVec 32 := Scalar.addi v39 c4_i32_23
  let c4_i32_24 : BitVec 32 := 4#32
  let v41 : BitVec 32 := Scalar.remsi v40 c4_i32_24
  let c2048_i32_37 : BitVec 32 := 2048#32
  let v53 : BitVec 32 := Scalar.muli v41 c2048_i32_37
  let c0_i32_38 : BitVec 32 := 0#32
  ![v53.toNat, 0]

def k0_chk1 (i : grid0.Coords) (v0 : BitVec 32) : Prop :=
  (∀ (k0_h8 : k0_cond8 i = 1#1), ∀ (k0_h9 : k0_cond9 i = 1#1), (k0_dev5 i v0) < nD) ∧
  (∀ (k0_h8 : k0_cond8 i = 1#1), ∀ (k0_h11 : k0_cond11 i = 1#1), ∀ a, (k0_off6 v0) a + S2048x1024.size a ≤ S8192x1024.size a) ∧
  (∀ (k0_h8 : k0_cond8 i = 1#1), ∀ (k0_h11 : k0_cond11 i = 1#1), ∀ (r : Fin 3), ∀ a, (k0_off7 v0 (BitVec.ofNat 32 r.val)) a + S2048x1024.size a ≤ S8192x1024.size a)
theorem k0_dev5_lt : ∀ (i : grid0.Coords) (v0 : BitVec 32) (k0_hw1 : k0_chk1 i v0), ∀ (k0_h8 : k0_cond8 i = 1#1), ∀ (k0_h9 : k0_cond9 i = 1#1), (k0_dev5 i v0) < nD := fun i v0 k0_hw1 k0_h8 k0_h9 => k0_hw1.1 k0_h8 k0_h9
theorem k0_off6_inb : ∀ (i : grid0.Coords) (v0 : BitVec 32) (k0_hw1 : k0_chk1 i v0), ∀ (k0_h8 : k0_cond8 i = 1#1), ∀ (k0_h11 : k0_cond11 i = 1#1), ∀ a, (k0_off6 v0) a + S2048x1024.size a ≤ S8192x1024.size a := fun i v0 k0_hw1 k0_h8 k0_h11 => k0_hw1.2.1 k0_h8 k0_h11
theorem k0_off7_inb : ∀ (i : grid0.Coords) (v0 : BitVec 32) (k0_hw1 : k0_chk1 i v0), ∀ (k0_h8 : k0_cond8 i = 1#1), ∀ (k0_h11 : k0_cond11 i = 1#1), ∀ (r : Fin 3), ∀ a, (k0_off7 v0 (BitVec.ofNat 32 r.val)) a + S2048x1024.size a ≤ S8192x1024.size a := fun i v0 k0_hw1 k0_h8 k0_h11 r => k0_hw1.2.2 k0_h8 k0_h11 r

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.addi v0 c1_i32
  let v2 : BitVec 32 := Scalar.addi v1 arg0
  let c4_i32 : BitVec 32 := 4#32
  let v3 : BitVec 32 := Scalar.remsi v2 c4_i32
  let c0_i32 : BitVec 32 := 0#32
  ![arg1.toNat, v3.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Words.lean ====
/-
  The kernel's integers. Each device reads its position `c` in the ring out of a one-word table; from that word and the
  grid point `(j, k)` the kernel computes the device it sends to, the rows it reads and writes, and the branches it takes.
  This module evaluates those words: the destination at step `j` is device `c + 1 + j` modulo 4, the rows of the result
  written from the part that came from the device `R` places back start at `2048 * ((c + 4 - R) mod 4)`.
-/
module

public import proofs.«01_k».proof.Proof.Gen.KernelIdeal.Skeleton
public import proofs.«01_k».proof.Proof.Gen.KernelIdeal.Launch
public import proofs.«01_k».proof.Proof.Gen.KernelIdeal.Regions
public import Idealize.ShloMosaic.Lib.Tactic

@[expose] public section

noncomputable section

namespace Cert.KernelIdeal.Run

open Cert.KernelIdeal Cert.KernelIdeal.Gen
open Idealize.ShloMosaic Idealize.ShloMosaic.TcCoe

/-- Device `c`'s position as the table's word. -/
abbrev word (c : Dev nD) : BitVec 32 := BitVec.ofNat 32 c.val

/-- The device that step `j` of device `c` computes a part for: `c + 1 + j` modulo 4. -/
def dst (c : Dev nD) (j : ℕ) : Dev nD := ⟨(c.val + 1 + j) % 4, Nat.mod_lt _ (by decide)⟩

/-- The device `R` places before `c`, modulo 4. -/
def src (c : Dev nD) (R : ℕ) : Dev nD := ⟨(c.val + 4 - R) % 4, Nat.mod_lt _ (by decide)⟩

/-- The slot of `d`'s landing buffer that `n` writes: the step at which `n` sends to `d`. -/
def slotOf (d n : Dev nD) : Fin 3 := ⟨(d.val + 3 - n.val) % 4 % 3, Nat.mod_lt _ (by decide)⟩

theorem dst_slotOf (d n : Dev nD) (h : n ≠ d) : dst n (slotOf d n).val = d := by revert d n; decide
theorem slotOf_dst (c : Dev nD) (j : Fin 3) : slotOf (dst c j.val) c = j := by revert c j; decide
theorem dst_ne (c : Dev nD) (j : Fin 3) : dst c j.val ≠ c := by revert c j; decide
theorem dst_three (c : Dev nD) : dst c 3 = c := by revert c; decide
theorem src_zero (c : Dev nD) : src c 0 = c := by revert c; decide
theorem dst_src (c : Dev nD) (j : Fin 3) : dst (src c (j.val + 1)) j.val = c := by revert c j; decide
theorem src_dst (c : Dev nD) (j : Fin 3) : src (dst c j.val) (j.val + 1) = c := by revert c j; decide

/-- What a device other than `c` is: one of the three `c` sends to. -/
theorem erase_eq (c : Dev nD) : (Finset.univ.erase c : Finset (Dev nD)) = Finset.univ.map ⟨fun j : Fin 3 => dst c j.val, fun a b h => by revert c a b; decide⟩ := by
  revert c; decide

/-! ### The words of the kernel's side condition, its target device and its rows -/

theorem chk (i : grid0.Coords) (c : Dev nD) : k0_chk1 i (word c) := by
  revert i c; decide +kernel

theorem dev5_eq (i : grid0.Coords) (c : Dev nD) (h8 : k0_cond8 i = 1#1) (h9 : k0_cond9 i = 1#1) (h : k0_dev5 i (word c) < nD) :
    (⟨k0_dev5 i (word c), h⟩ : Dev nD) = dst c (i 0).val := by
  revert i c; decide +kernel

theorem off6_eq (c : Dev nD) : k0_off6 (word c) = ![2048 * (src c 0).val, 0] := by revert c; decide +kernel
theorem off7_eq (c : Dev nD) (r : Fin 3) : k0_off7 (word c) (BitVec.ofNat 32 r.val) = ![2048 * (src c (r.val + 1)).val, 0] := by
  revert c r; decide +kernel

/-! ### The branches at the grid points -/

theorem cond1_iff (i : grid0.Coords) : k0_cond1 i = 1#1 ↔ (i 0).val = 0 ∧ (i 1).val = 0 := by revert i; decide +kernel
theorem cond8_iff (i : grid0.Coords) : k0_cond8 i = 1#1 ↔ (i 1).val = 7 := by revert i; decide +kernel
theorem cond9_iff (i : grid0.Coords) : k0_cond9 i = 1#1 ↔ (i 0).val < 3 := by revert i; decide +kernel
theorem cond11_iff (i : grid0.Coords) : k0_cond11 i = 1#1 ↔ (i 0).val = 3 := by revert i; decide +kernel

theorem start_iff (i : grid0.Coords) : Scalar.cmpi .ne (Scalar.extui (Scalar.cmpi .eq (BitVec.ofNat 32 (i 1).val) 0#32) : BitVec 32) 0#32 = 1#1 ↔ (i 1).val = 0 := by
  revert i; decide +kernel
theorem step_iff (i : grid0.Coords) : Scalar.cmpi .ne (Scalar.extui (Scalar.cmpi .ne (BitVec.ofNat 32 (i 1).val) 0#32) : BitVec 32) 0#32 = 1#1 ↔ (i 1).val ≠ 0 := by
  revert i; decide +kernel
theorem third_iff (i : grid0.Coords) : Scalar.cmpi .ne (Scalar.extui (Scalar.cmpi .eq (BitVec.ofNat 32 (i 0).val) 2#32) : BitVec 32) 0#32 = 1#1 ↔ (i 0).val = 2 := by
  revert i; decide +kernel
theorem other_iff (c n : Dev nD) : Scalar.cmpi .ne (Scalar.extui (Scalar.cmpi .ne (word c) (BitVec.ofNat 32 n.val)) : BitVec 32) 0#32 = 1#1 ↔ n ≠ c := by
  revert c n; decide +kernel

end Cert.KernelIdeal.Run

end
-- ==== Proof.Contents.lean ====
/-
  What the buffers hold. The table holds device `c`'s position. At grid point `(j, k)` the kernel multiplies block column
  `k` of the device's rows of `x` by block `(k, (c + 1 + j) mod 4)` of `w`, adding the products over `k` in the
  accumulator: `accS`. The message of step `j` is the finished accumulator, clipped at zero and rounded: `msg`. The result
  has four blocks of 2048 rows: `outBlk c R` is the one made from the part of the device `R` places before `c`.
-/
module

public import proofs.«01_k».proof.Proof.Words
public import Idealize.ShloMosaic.Lib.Ring
public import Idealize.ShloMosaic.Lib.Pipeline.ValueKit.Geometry

@[expose] public section

noncomputable section

namespace Cert.KernelIdeal.Run

open Cert.KernelIdeal Cert.KernelIdeal.Gen
open Idealize.ShloMosaic Idealize.ShloMosaic.TcCoe
open Idealize.ShloMosaic.ValueKit

variable {F : FTy → Type} [FloatOps F]

variable (m : (ℓ : Loc nD τ sig) → Buf (Elt F) ℓ)

/-! ## The table -/

/-- The table's contents on device `c`. -/
abbrev tbl (c : Dev nD) : pre0.Contents (Elt F) := fun | 0 => fun _ => word c | ⟨_ + 1, h⟩ => absurd h (Nat.not_lt.2 (Nat.le_add_left _ _))

/-- The host operations leave device `c`'s position in the table. -/
theorem V1_main_v5 (c : Dev nD) : V1 m c main_v5 = fun _ => word c := by
  have h : ∀ c : Dev nD, Scalar.remui (Scalar.divui (Dev.word c) 1#32) 4#32 = word c := by decide +kernel
  refine Eq.trans ?_ (funext fun _ => h c)
  simp only [V1, hostOps0, StableHlo.after_cons, StableHlo.after_nil]
  rfl

/-- The second window's block at the table of device `c`. -/
theorem transform_1_tbl (c : Dev nD) (i : grid0.Coords) :
    cc0_transform_1 (F := F) inb_S1_S1_0 numel1_S1 (tbl c) i = ![(i 1).val, (dst c (i 0).val).val] := by
  have h : ∀ (c : Dev nD) (i : grid0.Coords), (![(BitVec.ofNat 32 (i 1).val).toNat,
      (Scalar.remsi (Scalar.addi (Scalar.addi (word c) 1#32) (BitVec.ofNat 32 (i 0).val)) 4#32).toNat] : Fin 2 → ℕ)
      = ![(i 1).val, (dst c (i 0).val).val] := by decide +kernel
  exact h c i

theorem ok_tbl (c : Dev nD) : ok0 (F := F) (tbl c) := by
  intro i
  refine ⟨?_, .inl rfl⟩
  rw [transform_1_tbl]
  revert c i; decide +kernel

/-- Device `c`'s table, with the side condition it meets. -/
abbrev adm (c : Dev nD) : (pcfg0 (F := F)).Adm := ⟨tbl c, ok_tbl c⟩

/-! ## The accumulator, the messages, the result -/

/-- The grid point numbered `n`. -/
abbrev pt (n : ℕ) : Fin grid0.N := ⟨n % 32, by rw [N_0]; exact Nat.mod_lt _ (by decide)⟩

/-- The block of `x` staged at point `n`, -/
def xBlk (c : Dev nD) (n : ℕ) : Vec F S2048x1024 .f32 :=
  ((win0 (adm (F := F) c) 0).blk (pt n)).view.read (Elt F) (V1 m c main_arg0)
/-- and the block of `w`. -/
def wBlk (c : Dev nD) (n : ℕ) : Vec F S1024x1024 .f32 :=
  ((win0 (adm (F := F) c) 1).blk (pt n)).view.read (Elt F) (V1 m c main_arg1)

/-- The accumulator of device `c` after point `n`. -/
def accS (c : Dev nD) : ℕ → Vec F S2048x1024 .f32
  | 0 => k0_pay2 (xBlk m c 0) (wBlk m c 0)
  | n + 1 => if (n + 1) % 8 = 0 then k0_pay2 (xBlk m c (n + 1)) (wBlk m c (n + 1)) else k0_pay3 (xBlk m c (n + 1)) (wBlk m c (n + 1)) (accS c n)

theorem accS_start (c : Dev nD) (n : ℕ) (h : n % 8 = 0) : accS m c n = k0_pay2 (xBlk m c n) (wBlk m c n) := by
  cases n with
  | zero => rfl
  | succ n => exact if_pos h
theorem accS_step (c : Dev nD) (n : ℕ) (h : (n + 1) % 8 ≠ 0) :
    accS m c (n + 1) = k0_pay3 (xBlk m c (n + 1)) (wBlk m c (n + 1)) (accS m c n) := if_neg h

/-- The message device `d` sends at step `j`. -/
def msg (d : Dev nD) (j : ℕ) : Vec F S2048x1024 .bf16 := k0_pay4 (accS m d (8 * j + 7))

/-- The block of rows of device `c`'s result made from the part of the device `R` places before it. -/
def outBlk (c : Dev nD) (R : ℕ) : Vec F S2048x1024 .f32 :=
  if R = 0 then k0_pay6 (accS m c 31) else k0_pay5 (msg m (src c R) (R - 1))

/-! ## The pieces of the buffers -/

theorem stage_inb (j : Fin 3) : ∀ a, (![2048 * j.val, 0] : Fin 2 → ℕ) a + S2048x1024.size a ≤ S6144x1024.size a := by
  revert j; decide
theorem send_inb (s : Fin 2) : ∀ a, (![2048 * s.val, 0] : Fin 2 → ℕ) a + S2048x1024.size a ≤ S4096x1024.size a := by
  revert s; decide
theorem out_inb (b : Fin 4) : ∀ a, (![2048 * b.val, 0] : Fin 2 → ℕ) a + S2048x1024.size a ≤ S8192x1024.size a := by
  revert b; decide

/-- Slot `j` of the landing buffer. -/
def stageM (j : Fin 3) : Memref sig .tc .vmem S2048x1024 .bf16 :=
  (Memref.whole cc0_scratch2).slice (Rect.unit (s := S6144x1024) ![2048 * j.val, 0] S2048x1024.size (stage_inb j)) (fun _ => rfl)
/-- Slot `s` of the sending buffer. -/
def sendM (s : Fin 2) : Memref sig .tc .vmem S2048x1024 .bf16 :=
  (Memref.whole cc0_scratch1).slice (Rect.unit (s := S4096x1024) ![2048 * s.val, 0] S2048x1024.size (send_inb s)) (fun _ => rfl)
/-- Block `b` of the result's rows. -/
def outM (b : Fin 4) : Memref sig .tc .hbm S2048x1024 .f32 :=
  (Memref.whole main_v6).slice (Rect.unit (s := S8192x1024) ![2048 * b.val, 0] S2048x1024.size (out_inb b)) (fun _ => rfl)
/-- The accumulator. -/
def accM : Memref sig .tc .vmem S2048x1024 .f32 := Memref.whole cc0_scratch0

/-- The elements of a piece. -/
abbrev stageSet (j : Fin 3) : Finset S6144x1024.Idx := (stageM j).view.set
/-- The elements of a piece. -/
abbrev sendSet (j : Fin 2) : Finset S4096x1024.Idx := (sendM j).view.set
/-- The elements of a piece. -/
abbrev outSet (j : Fin 4) : Finset S8192x1024.Idx := (outM j).view.set

theorem stage_disj (a b : Fin 3) (h : a ≠ b) : Disjoint (stageM a).view.set (stageM b).view.set :=
  View.disjoint_slice_of_sep _ _ _ 0 rfl rfl (by revert a b; decide)
theorem send_disj (a b : Fin 2) (h : a ≠ b) : Disjoint (sendM a).view.set (sendM b).view.set :=
  View.disjoint_slice_of_sep _ _ _ 0 rfl rfl (by revert a b; decide)
theorem out_disj (a b : Fin 4) (h : a ≠ b) : Disjoint (outM a).view.set (outM b).view.set :=
  View.disjoint_slice_of_sep _ _ _ 0 rfl rfl (by revert a b; decide)

theorem stage_cover : Finset.univ.biUnion stageSet = Finset.univ := by
  refine Finset.eq_univ_of_forall fun (i : S6144x1024.Idx) => ?_
  have h0 : (i 0).val < 6144 := (i 0).isLt
  have h1 : (i 1).val < 1024 := (i 1).isLt
  refine Finset.mem_biUnion.mpr ⟨⟨(i 0).val / 2048, by omega⟩, Finset.mem_univ _, ?_⟩
  refine (mem_set_slice_whole_iff _ _ _ Rect.mem_set_unit).mpr fun a => ?_
  fin_cases a
  · show 2048 * ((i 0).val / 2048) ≤ (i 0).val ∧ (i 0).val < 2048 * ((i 0).val / 2048) + 2048; omega
  · show 0 ≤ (i 1).val ∧ (i 1).val < 0 + 1024; omega
theorem send_cover : Finset.univ.biUnion sendSet = Finset.univ := by
  refine Finset.eq_univ_of_forall fun (i : S4096x1024.Idx) => ?_
  have h0 : (i 0).val < 4096 := (i 0).isLt
  have h1 : (i 1).val < 1024 := (i 1).isLt
  refine Finset.mem_biUnion.mpr ⟨⟨(i 0).val / 2048, by omega⟩, Finset.mem_univ _, ?_⟩
  refine (mem_set_slice_whole_iff _ _ _ Rect.mem_set_unit).mpr fun a => ?_
  fin_cases a
  · show 2048 * ((i 0).val / 2048) ≤ (i 0).val ∧ (i 0).val < 2048 * ((i 0).val / 2048) + 2048; omega
  · show 0 ≤ (i 1).val ∧ (i 1).val < 0 + 1024; omega
theorem out_cover : Finset.univ.biUnion outSet = Finset.univ := by
  refine Finset.eq_univ_of_forall fun (i : S8192x1024.Idx) => ?_
  have h0 : (i 0).val < 8192 := (i 0).isLt
  have h1 : (i 1).val < 1024 := (i 1).isLt
  refine Finset.mem_biUnion.mpr ⟨⟨(i 0).val / 2048, by omega⟩, Finset.mem_univ _, ?_⟩
  refine (mem_set_slice_whole_iff _ _ _ Rect.mem_set_unit).mpr fun a => ?_
  fin_cases a
  · show 2048 * ((i 0).val / 2048) ≤ (i 0).val ∧ (i 0).val < 2048 * ((i 0).val / 2048) + 2048; omega
  · show 0 ≤ (i 1).val ∧ (i 1).val < 0 + 1024; omega

/-- Device `c`'s result: row `p` is row `p mod 2048` of the block made from device `p / 2048`'s part. -/
def OUT (c : Dev nD) : (main_v6 : Ref sig .tc).ty.Contents (Elt F) := fun (p : S8192x1024.Idx) =>
  outBlk m c ((c.val + 4 - (p 0).val / 2048) % 4) (fun | 0 => ⟨(p 0).val % 2048, Nat.mod_lt _ (by decide)⟩ | 1 => p 1)

/-- The row and column of element `j` of block `b` of the result. -/
abbrev outIdx (b : Fin 4) (j : S2048x1024.Idx) : S8192x1024.Idx := (outM b).view.emb j

/-- Its block `src c R` is the one handled `R` places back. -/
theorem read_OUT (c : Dev nD) (R : Fin 4) : (outM (src c R.val)).view.read (Elt F) (OUT m c) = outBlk m c R.val := by
  funext (j : S2048x1024.Idx)
  have h0 : (j 0).val < 2048 := (j 0).isLt
  have hp0 : (outIdx (src c R.val) j 0).val = 2048 * (src c R.val).val + (j 0).val :=
    view_emb_slice_whole_unit_val main_v6 _ _ _ j 0
  have hp1 : (outIdx (src c R.val) j 1).val = 0 + (j 1).val :=
    view_emb_slice_whole_unit_val main_v6 _ _ _ j 1
  show OUT m c (outIdx (src c R.val) j) = _
  unfold OUT
  have hR : (c.val + 4 - (outIdx (src c R.val) j 0).val / 2048) % 4 = R.val := by
    rw [hp0, show (2048 * (src c R.val).val + (j 0).val) / 2048 = (src c R.val).val by omega]
    clear hp0 hp1; revert c R; decide
  rw [hR]
  congr 1
  funext a
  fin_cases a
  · apply Fin.ext; show (outIdx (src c R.val) j 0).val % 2048 = (j 0).val; omega
  · apply Fin.ext; show (outIdx (src c R.val) j 1).val = (j 1).val; omega

end Cert.KernelIdeal.Run

end
-- ==== Proof.Proto.lean ====
/-
  The protocol of the four devices. Device `c` first tells every other device that it is inside the kernel (one unit on
  that device's barrier semaphore) and waits for the three units of the others. With its unit a device hands out the slot
  of its landing buffer that the receiver of the unit will write. At the end of step `j` of three, `c` sends its message
  to `dst c j`, into slot `j` there: the copy credits that device's receive semaphore `j` with the slot holding the
  message, and `c`'s own send semaphore `j mod 2` with the sending slot back. A sending slot is used again at step 2, after
  a wait for its first copy. At the end of step 3 `c` copies its four blocks out, each through the accumulator, each copy
  one round of the copy semaphore.

  Here: the cells, what each unit hands over, what each device owes, and the levels that order the waits: barrier cells at
  1, send cells at 2, receive cells at 3, everything else at 0; a device waits only below what it still owes.
-/
module

public import proofs.«01_k».proof.Proof.Contents
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, and the protocol's, whose duties are named by the device that pays -/

abbrev UP : Type := URounds (GSem nD τ sig) Unit
abbrev UQ : Type := URounds (GSem nD τ sig) (Dev nD)
abbrev UU : Type := UP × UQ

local notation "𝕄" => MT nD τ sig Unit (Elt F) ℕ UU ℕ

abbrev EP : Emb UP (MT nD τ sig Unit (Elt F) ℕ UU ℕ) := embL
abbrev ER : Emb UQ (MT nD τ sig Unit (Elt F) ℕ UU ℕ) := embR

variable (m : (ℓ : Loc nD τ sig) → Buf (Elt F) ℓ)

/-! ## Cells -/

abbrev barS : Sem sig := ⟨0, by decide⟩
def sendS (s : Fin 2) : DmaSem sig := ⟨4 + s.val, by have := s.isLt; show 4 + s.val < 10; omega⟩
def recvS (j : Fin 3) : DmaSem sig := ⟨6 + j.val, by have := j.isLt; show 6 + j.val < 10; omega⟩
abbrev copyS : DmaSem sig := ⟨9, by decide⟩
abbrev barCell (c : Dev nD) : GSem nD τ sig := ((c : Thread nD τ), .reg barS)
abbrev sendCell (c : Dev nD) (s : Fin 2) : GSem nD τ sig := ((c : Thread nD τ), .dma (sendS s))
abbrev recvCell (c : Dev nD) (j : Fin 3) : GSem nD τ sig := ((c : Thread nD τ), .dma (recvS j))
abbrev copyCell (c : Dev nD) : GSem nD τ sig := ((c : Thread nD τ), .dma copyS)

/-- The units a landing message credits, and those a block of the result does. -/
@[irreducible] def NB : ℕ := (stageM 0).view.dmaCredit
@[irreducible] def NC : ℕ := accM.view.dmaCredit
theorem stage_credit (j : Fin 3) : (stageM j).view.dmaCredit = NB := by unfold NB; rfl
theorem send_credit (s : Fin 2) : (sendM s).view.dmaCredit = NB := by unfold NB; rfl
theorem out_credit (b : Fin 4) : (outM b).view.dmaCredit = NC := by unfold NC; rfl
theorem NB_pos : 0 < NB := by unfold NB; exact View.dmaCredit_pos _ (by decide)
theorem NC_pos : 0 < NC := by unfold NC; exact View.dmaCredit_pos _ (by decide)

/-! ## The pieces held -/

/-- Device `c` owns the elements of a view, whatever they hold. -/
def anyAt (c : Dev nD) {sp : Space} {sh : Shape} {e : EltTy} (v : Memref sig .tc sp sh e) : sProp 𝕄 :=
  iprop(∃ X : sh.Idx → Elt F e, owns (c : Thread nD τ) v fullShare X)

instance anyAt_storable (c : Dev nD) {sp : Space} {sh : Shape} {e : EltTy} (v : Memref sig .tc sp sh e) :
    BI.Storable (upEmb : UEmb _ 𝕄) (anyAt (F := F) c v) := by
  unfold anyAt; infer_instance

/-! ## What the units hand over -/

/-- With `d`'s unit on `n`'s barrier cell: the slot of `d` that `n` writes, and that `d`'s receive cell of it is ready. -/
def barPay (n d : Dev nD) : sProp 𝕄 := iprop(anyAt d (stageM (slotOf d n)) ∗ reached ER (recvCell d (slotOf d n)) 0)
/-- With the landing in slot `j` of `c`: the slot, holding the message of the device `j + 1` places before. -/
def recvPay (c : Dev nD) (j : Fin 3) : sProp 𝕄 := owns (c : Thread nD τ) (stageM j) fullShare (msg m (src c (j.val + 1)) j.val)
/-- With the read-out of a sent message: the sending slot. -/
def sendPay (c : Dev nD) (s : Fin 2) : sProp 𝕄 := anyAt c (sendM s)
/-- With the `R`-th copy into the result: the block, holding what it should, and the accumulator. -/
def copyPay (c : Dev nD) (R : ℕ) : sProp 𝕄 :=
  iprop(owns (c : Thread nD τ) (outM (src c R)) fullShare (outBlk m c R) ∗ anyAt c accM)

instance barPay_storable (n d : Dev nD) : BI.Storable (upEmb : UEmb _ 𝕄) (barPay (F := F) n d) := by unfold barPay; infer_instance
instance recvPay_storable (c : Dev nD) (j : Fin 3) : BI.Storable (upEmb : UEmb _ 𝕄) (recvPay m c j) := by unfold recvPay; infer_instance
instance sendPay_storable (c : Dev nD) (s : Fin 2) : BI.Storable (upEmb : UEmb _ 𝕄) (sendPay (F := F) c s) := by unfold sendPay; infer_instance
instance copyPay_storable (c : Dev nD) (R : ℕ) : BI.Storable (upEmb : UEmb _ 𝕄) (copyPay m c R) := by unfold copyPay; infer_instance

/-- The rounds of a DMA semaphore: two of the first send semaphore, four of the copy semaphore, one of the others. -/
def rounds (s : DmaSem sig) : ℕ :=
  if s.val = 4 then 2 else if s.val = 5 then 1 else if s.val = 6 then 1 else if s.val = 7 then 1 else if s.val = 8 then 1
  else if s.val = 9 then 4 else 0

def dmaPay (c : Dev nD) (s : DmaSem sig) (r : ℕ) : sProp 𝕄 :=
  if s.val = 4 then sendPay c 0 else if s.val = 5 then sendPay c 1
  else if s.val = 6 then recvPay m c 0 else if s.val = 7 then recvPay m c 1 else if s.val = 8 then recvPay m c 2
  else if s.val = 9 then copyPay m c r else iprop(emp)

/-- The schedule. A barrier cell has one round, of a unit by every other device; a DMA cell one transfer a round. -/
def Rd : Rounds.Schedule (GSem nD τ sig) (Dev nD) 𝕄 where
  duties g r := if g.1.2 = .tc then (match g.2 with
    | .reg _ => if r = 0 then Finset.univ.erase g.1.1 else ∅
    | .dma s => if r < rounds s then {0} else ∅) else ∅
  amount g _ _ := match g.2 with
    | .reg _ => 1
    | .dma s => if s.val = 9 then NC else NB
  payload g r d := match g.2 with
    | .reg _ => barPay g.1.1 d
    | .dma s => dmaPay m g.1.1 s r
  unitless _ := False
  amount_pos g r d h := by
    rcases g with ⟨⟨c, p⟩, s | s⟩
    · exact Nat.one_pos
    · show 0 < if s.val = 9 then NC else NB
      split
      · exact NC_pos
      · exact NB_pos

instance Rd_storable (g : GSem nD τ sig) (r : ℕ) (d : Dev nD) : BI.Storable (upEmb : UEmb _ 𝕄) ((Rd (F := F) m).payload g r d) := by
  rcases g with ⟨⟨c, p⟩, s | s⟩
  · show BI.Storable upEmb (barPay c d)
    infer_instance
  · show BI.Storable upEmb (dmaPay m c s r)
    unfold dmaPay
    (repeat' split) <;> infer_instance

section Tables

variable (c : Dev nD)

theorem duties_bar : (Rd (F := F) m).duties (barCell c) 0 = Finset.univ.erase c := rfl
theorem duties_send0 (r : ℕ) (h : r < 2) : (Rd (F := F) m).duties (sendCell c 0) r = {0} := if_pos h
theorem duties_send1 : (Rd (F := F) m).duties (sendCell c 1) 0 = {0} := rfl
theorem duties_recv (j : Fin 3) : (Rd (F := F) m).duties (recvCell c j) 0 = {0} := by fin_cases j <;> rfl
theorem duties_copy (r : ℕ) (h : r < 4) : (Rd (F := F) m).duties (copyCell c) r = {0} := if_pos h
theorem duties_bar_later : ∀ r, 1 ≤ r → (Rd (F := F) m).duties (barCell c) r = ∅ := fun r h => if_neg (by omega)
theorem duties_dma_later (s : DmaSem sig) (r₀ : ℕ) (h₀ : rounds s ≤ r₀) : ∀ r, r₀ ≤ r → (Rd (F := F) m).duties ((c : Thread nD τ), .dma s) r = ∅ :=
  fun r h => if_neg (by omega)

theorem amount_bar (r : ℕ) (d : Dev nD) : (Rd (F := F) m).amount (barCell c) r d = 1 := rfl
theorem amount_send (s : Fin 2) (r : ℕ) (d : Dev nD) : (Rd (F := F) m).amount (sendCell c s) r d = NB := by fin_cases s <;> rfl
theorem amount_recv (j : Fin 3) (r : ℕ) (d : Dev nD) : (Rd (F := F) m).amount (recvCell c j) r d = NB := by fin_cases j <;> rfl
theorem amount_copy (r : ℕ) (d : Dev nD) : (Rd (F := F) m).amount (copyCell c) r d = NC := rfl

theorem payload_bar (r : ℕ) (d : Dev nD) : (Rd (F := F) m).payload (barCell c) r d = barPay c d := rfl
theorem payload_send (s : Fin 2) (r : ℕ) (d : Dev nD) : (Rd (F := F) m).payload (sendCell c s) r d = sendPay c s := by fin_cases s <;> rfl
theorem payload_recv (j : Fin 3) (r : ℕ) (d : Dev nD) : (Rd (F := F) m).payload (recvCell c j) r d = recvPay m c j := by fin_cases j <;> rfl
theorem payload_copy (r : ℕ) (d : Dev nD) : (Rd (F := F) m).payload (copyCell c) r d = copyPay m c r := rfl

theorem expect_bar : (Rd (F := F) m).expect (barCell c) 0 = 3 := by
  unfold Schedule.expect Schedule.amountOf
  rw [duties_bar, Finset.sum_congr rfl fun d _ => amount_bar m c 0 d, Finset.sum_const, Finset.card_erase_of_mem (Finset.mem_univ c)]
  rfl
/-- A cell with one duty in a round: what is expected of the round, and what it hands over. -/
theorem expect_single {g : GSem nD τ sig} {r n : ℕ} {d : Dev nD} (hd : (Rd (F := F) m).duties g r = {d}) (ha : (Rd (F := F) m).amount g r d = n) :
    (Rd (F := F) m).expect g r = n := by
  unfold Schedule.expect Schedule.amountOf; rw [hd]
  exact (Finset.sum_singleton _ _).trans ha
theorem rest_single {g : GSem nD τ sig} {r : ℕ} {d : Dev nD} {P : sProp 𝕄} (hd : (Rd (F := F) m).duties g r = {d}) (hp : (Rd (F := F) m).payload g r d = P) :
    bigSep ((Rd (F := F) m).duties g r \ ∅) (fun u => (Rd (F := F) m).payload g r u) = P := by
  rw [Finset.sdiff_empty, hd, bigSep_singleton]; exact hp

theorem expect_send0 (r : ℕ) (h : r < 2) : (Rd (F := F) m).expect (sendCell c 0) r = NB :=
  expect_single m (duties_send0 m c r h) (amount_send m c 0 r 0)
theorem expect_send1 : (Rd (F := F) m).expect (sendCell c 1) 0 = NB := expect_single m (duties_send1 m c) (amount_send m c 1 0 0)
theorem expect_recv (j : Fin 3) : (Rd (F := F) m).expect (recvCell c j) 0 = NB := expect_single m (duties_recv m c j) (amount_recv m c j 0 0)
theorem expect_copy (r : ℕ) (h : r < 4) : (Rd (F := F) m).expect (copyCell c) r = NC := expect_single m (duties_copy m c r h) (amount_copy m c r 0)

theorem rest_send0 (r : ℕ) (h : r < 2) : bigSep ((Rd (F := F) m).duties (sendCell c 0) r \ ∅) (fun u => (Rd (F := F) m).payload (sendCell c 0) r u) = sendPay c 0 :=
  rest_single m (duties_send0 m c r h) (payload_send m c 0 r 0)
theorem rest_send1 : bigSep ((Rd (F := F) m).duties (sendCell c 1) 0 \ ∅) (fun u => (Rd (F := F) m).payload (sendCell c 1) 0 u) = sendPay c 1 :=
  rest_single m (duties_send1 m c) (payload_send m c 1 0 0)
theorem rest_recv (j : Fin 3) : bigSep ((Rd (F := F) m).duties (recvCell c j) 0 \ ∅) (fun u => (Rd (F := F) m).payload (recvCell c j) 0 u) = recvPay m c j :=
  rest_single m (duties_recv m c j) (payload_recv m c j 0 0)
theorem rest_copy (r : ℕ) (h : r < 4) : bigSep ((Rd (F := F) m).duties (copyCell c) r \ ∅) (fun u => (Rd (F := F) m).payload (copyCell c) r u) = copyPay m c r :=
  rest_single m (duties_copy m c r h) (payload_copy m c r 0)

/-- What `c` holds of the device of step `j` once the barrier is passed: the slot its message goes to. -/
def peer (c : Dev nD) (j : Fin 3) : sProp 𝕄 := iprop(anyAt (dst c j.val) (stageM j) ∗ reached ER (recvCell (dst c j.val) j) 0)

theorem rest_bar : bigSep ((Rd (F := F) m).duties (barCell c) 0 \ ∅) (fun u => (Rd (F := F) m).payload (barCell c) 0 u)
    = iprop(peer c 0 ∗ peer c 1 ∗ peer c 2) := by
  rw [Finset.sdiff_empty, duties_bar, erase_eq, bigSep_map]
  rw [show (Finset.univ : Finset (Fin 3)) = {0, 1, 2} from by decide, bigSep_insert (by decide), bigSep_insert (by decide), bigSep_singleton]
  have h (j : Fin 3) : (Rd (F := F) m).payload (barCell c) 0 (dst c j.val) = peer c j := by
    rw [payload_bar]; unfold barPay peer; rw [slotOf_dst]
  exact congrArg₂ _ (h 0) (congrArg₂ _ (h 1) (h 2))

end Tables

/-! ## What each device owes; the levels -/

/-- What the messages from step `n` on still owe. -/
def owedFrom (c : Dev nD) : ℕ → CellTallies nD τ sig Unit
  | 0 => ((0 + tallyAt (recvCell (dst c 2) 2) () NB) + tallyAt (recvCell (dst c 1) 1) () NB) + tallyAt (recvCell (dst c 0) 0) () NB
  | 1 => (0 + tallyAt (recvCell (dst c 2) 2) () NB) + tallyAt (recvCell (dst c 1) 1) () NB
  | 2 => 0 + tallyAt (recvCell (dst c 2) 2) () NB
  | _ => 0
/-- The unit owed to device `n`'s barrier cell, none to the own. -/
def owedBar (c n : Dev nD) : CellTallies nD τ sig Unit := tallyAt (barCell n) () (if n = c then 0 else 1)
/-- What device `c` owes at launch: three barrier units and three messages. -/
def O₀ (c : Dev nD) : CellTallies nD τ sig Unit := (((owedFrom c 0 + owedBar c 3) + owedBar c 2) + owedBar c 1) + owedBar c 0

def L (g : GSem nD τ sig) : Finset Unit := if g.1.2 = .tc then {()} else ∅
def lv (g : GSem nD τ sig) (_ : Unit) : ℕ := match g.2 with
  | .reg _ => 1
  | .dma s => if s.val = 4 ∨ s.val = 5 then 2 else if s.val = 6 ∨ s.val = 7 ∨ s.val = 8 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 3) : lv (recvCell c j) () = 3 := by fin_cases j <;> rfl

theorem tally_pos {g g' : GSem nD τ sig} {n : ℕ} {u : Unit} (h : 0 < (tallyAt g' () n : CellTallies nD τ sig Unit) g u) : g = g' := by
  rw [tallyAt_apply] at h
  by_cases hg : g = g' ∧ u = ()
  · exact hg.1
  · rw [if_neg hg] at h; exact absurd h (Nat.lt_irrefl 0)
theorem add_pos {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

/-- After the barrier only receive cells are owed; -/
theorem owedFrom_pos {c : Dev nD} {n : ℕ} {g : GSem nD τ sig} {u : Unit} (h : 0 < owedFrom c n g u) : ∃ j : Fin 3, g = recvCell (dst c j.val) j := by
  have z : ¬ 0 < (0 : CellTallies nD τ sig Unit) g u := Nat.lt_irrefl 0
  match n with
  | 0 =>
    rcases add_pos h with h | h
    · rcases add_pos h with h | h
      · rcases add_pos h with h | h
        · exact absurd h z
        · exact ⟨2, tally_pos h⟩
      · exact ⟨1, tally_pos h⟩
    · exact ⟨0, tally_pos h⟩
  | 1 =>
    rcases add_pos h with h | h
    · rcases add_pos h with h | h
      · exact absurd h z
      · exact ⟨2, tally_pos h⟩
    · exact ⟨1, tally_pos h⟩
  | 2 =>
    rcases add_pos h with h | h
    · exact absurd h z
    · exact ⟨2, tally_pos h⟩
  | n + 3 => exact absurd h z
/-- before it, barrier cells too. -/
theorem O₀_pos {c : Dev nD} {g : GSem nD τ sig} {u : Unit} (h : 0 < O₀ c g u) : (∃ j : Fin 3, g = recvCell (dst c j.val) j) ∨ ∃ n, g = barCell n := by
  rcases add_pos h with h | h
  · rcases add_pos h with h | h
    · rcases add_pos h with h | h
      · rcases add_pos h with h | h
        · exact .inl (owedFrom_pos h)
        · exact .inr ⟨3, tally_pos h⟩
      · exact .inr ⟨2, tally_pos h⟩
    · exact .inr ⟨1, tally_pos h⟩
  · exact .inr ⟨0, tally_pos h⟩

/-- A wait on a cell of level at most 2 may be made while only receive cells are owed. -/
theorem mayWait_low (c : Dev nD) (sm : SemLoc sig) (h : lv ((c : Thread nD τ), sm) () ≤ 2) (n : ℕ) :
    (levAts L lv : sProp 𝕄) ⊢ MayWait (c : Thread nD τ) sm () (owedFrom c n) :=
  MayOwe.of_cut (L := L) (lev := lv) 2 (fun p hp => by rw [Finset.mem_singleton.mp hp, L_tc]; exact Finset.mem_singleton_self _)
    (fun g u hg => by
      obtain ⟨j, rfl⟩ := owedFrom_pos hg
      rw [L_tc]; exact Finset.mem_singleton_self _)
    (fun p hp => by rw [Finset.mem_singleton.mp hp]; exact h)
    (fun g u hg => by
      obtain ⟨j, rfl⟩ := owedFrom_pos hg
      rw [lv_recv]; decide)

end Cert.KernelIdeal.Run

end
-- ==== Proof.Steps.lean ====
/-
  One operation of the kernel at a time, on a device `c`: what it needs, and what it leaves. Loads and stores through a
  view that is owned; the guarded barrier signal and the wait for the others; the send of a message and the waits for it at
  both ends; the copy of a block into the result with its wait. Each is stated for an operation whose views, device and
  semaphores are equal to those of the protocol, so that it fits the operation as the kernel spells it.
-/
module

public import proofs.«01_k».proof.Proof.Proto

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs the kernel program `p` and ends in `Kt`. -/
abbrev wpB (c : Dev nD) (p : Prog (TpuEff nD τ sig (Elt F) Λ₀ .tc) PUnit) (Kt : PUnit → sProp 𝕄) : sProp 𝕄 :=
  wp frame (wpE (defs₀ (F := F)) 𝒱₀ (c : Thread nD τ) none) Set.univ p Kt

/-! ## Loads and stores -/

section Mem

variable (c : Dev nD) {sp : CoreSpace} {sh : Shape} {e : EltTy} {v : Memref sig .tc sp sh e} {q : PosShare TreeShare}

/-- A slice through the whole shape is the view itself. -/
theorem owns_slice_whole {sp : Space} (v : Memref sig .tc sp sh e) {off : Fin sh.rank → ℕ} (h : off = fun _ => 0) (inb : ∀ a, off a + sh.size a ≤ sh.size a) (hs) (X : sh.Idx → Elt F e) :
    (owns (c : Thread nD τ) (v.slice (Rect.unit off sh.size inb) hs) q X : sProp 𝕄) = owns (c : Thread nD τ) v q X := by
  subst h
  have hr (f : v.view.ty.Contents (Elt F)) : (v.slice (Rect.unit (fun _ => 0) sh.size inb) hs).view.read (Elt F) f = v.view.read (Elt F) f := by
    funext x
    show v.view.read (Elt F) f ((Rect.whole sh).emb x) = _
    rw [Rect.emb_whole_apply]
  have hset : (v.slice (Rect.unit (fun _ => 0) sh.size inb) hs).view.set = v.view.set := by
    show (v.view.slice (Rect.whole sh)).set = _
    rw [View.set_slice, Rect.set_whole]; rfl
  unfold owns
  rw [hset]
  refine congrArg _ (funext fun f => ?_)
  rw [hr f]

/-- A load reads what the view restricted to its rectangle holds. -/
theorem step_load {r : Rect sh} (hr : ∀ a, r.stride a = 1) {hl : v.view.LoadsAt r.toLoadRect} {X : r.shape.Idx → Elt F e}
    {k : (r.shape.Idx → Elt F e) → Prog (TpuEff nD τ sig (Elt F) Λ₀ .tc) PUnit} {Kt : PUnit → sProp 𝕄} :
    (owns (c : Thread nD τ) (v.slice r hr) q X) ⊢ iprop((owns (c : Thread nD τ) (v.slice r hr) q X -∗ wpB c (k X) Kt)
      -∗ wpB c (.op (.load v r.toLoadRect hl) k) Kt) := by
  iintro H Hk
  unfold owns
  icases H with ⟨%f, %hf, H⟩
  subst hf
  iapply (wp_load_rect (m := v) (r := r) 𝒱₀ (c : Thread nD τ) none Set.univ (S := (v.slice r hr).view.set) (q := q) (f := f) (Finset.Subset.refl _)) $$ H
  iintro H
  iapply Hk
  iexists f
  isplitr; · ipureintro; rfl
  iexact H

/-- A load of the whole view. -/
theorem step_load_whole {off : Fin sh.rank → ℕ} (h : off = fun _ => 0) {inb : ∀ a, off a + sh.size a ≤ sh.size a} {hl : v.view.LoadsAt (Rect.unit off sh.size inb).toLoadRect}
    {X : sh.Idx → Elt F e} {k : (sh.Idx → Elt F e) → Prog (TpuEff nD τ sig (Elt F) Λ₀ .tc) PUnit} {Kt : PUnit → sProp 𝕄} :
    (owns (c : Thread nD τ) v q X) ⊢ iprop((owns (c : Thread nD τ) v q X -∗ wpB c (k X) Kt)
      -∗ wpB c (.op (.load v (Rect.unit off sh.size inb).toLoadRect hl) k) Kt) := by
  have h1 := owns_slice_whole (F := F) c (q := q) v h inb (fun _ => rfl) X
  rw [← h1]
  exact step_load c (fun _ => rfl)

/-- A store through a rectangle leaves the view restricted to it holding what was stored. -/
theorem step_store {r : Rect sh} (hr : ∀ a, r.stride a = 1) {w : r.shape.Idx → Elt F e} {hx : (v.access r).Stores Finset.univ} {hm}
    {k : PUnit → Prog (TpuEff nD τ sig (Elt F) Λ₀ .tc) PUnit} {Kt : PUnit → sProp 𝕄} :
    (anyAt c (v.slice r hr)) ⊢ iprop((owns (c : Thread nD τ) (v.slice r hr) fullShare w -∗ wpB c (k ⟨⟩) Kt)
      -∗ wpB c (.op (.store v r w Finset.univ hx hm) k) Kt) := by
  iintro H Hk
  unfold anyAt owns
  icases H with ⟨%X, %f, -, H⟩
  iapply (wp_store (m := v) (r := r) 𝒱₀ (c : Thread nD τ) none Set.univ (S := (v.slice r hr).view.set) (f := f) (Finset.Subset.refl _)) $$ H
  iintro H
  iapply Hk
  iexists (v.access r).write (Elt F) f w Finset.univ
  isplitr; · ipureintro; exact View.read_write_univ _ _
  iexact H

/-- A store through the whole view. -/
theorem step_store_whole {off : Fin sh.rank → ℕ} (h : off = fun _ => 0) {inb : ∀ a, off a + sh.size a ≤ sh.size a} {w : sh.Idx → Elt F e}
    {hx : (v.access (Rect.unit off sh.size inb)).Stores Finset.univ} {hm}
    {k : PUnit → Prog (TpuEff nD τ sig (Elt F) Λ₀ .tc) PUnit} {Kt : PUnit → sProp 𝕄} :
    (anyAt c v) ⊢ iprop((owns (c : Thread nD τ) v fullShare w -∗ wpB c (k ⟨⟩) Kt)
      -∗ wpB c (.op (.store v (Rect.unit off sh.size inb) w Finset.univ hx hm) k) Kt) := by
  have h1 := owns_slice_whole (F := F) c (q := fullShare) v h inb (fun _ => rfl)
  have h2 : (anyAt c v : sProp 𝕄) = anyAt c (v.slice (Rect.unit off sh.size inb) (fun _ => rfl)) := by
    unfold anyAt; exact congrArg _ (funext fun X => (h1 X).symm)
  rw [← h1 w, h2]
  exact step_store c (fun _ => rfl)

omit [FloatOps F] in
theorem anyAt_intro {sp : Space} (v : Memref sig .tc sp sh e) (X : sh.Idx → Elt F e) :
    (owns (c : Thread nD τ) v fullShare X : sProp 𝕄) ⊢ anyAt c v := by
  unfold anyAt; iintro H; iexists X; iexact H

end Mem

/-! ## What all the steps share -/

/-- The cells of the protocol: on every device the barrier cell, two send cells, three receive cells, the copy cell. -/
def cellAt (p : Dev nD × Fin 7) : GSem nD τ sig := match p.2 with
  | 0 => barCell p.1
  | 1 => sendCell p.1 0
  | 2 => sendCell p.1 1
  | 3 => recvCell p.1 0
  | 4 => recvCell p.1 1
  | 5 => recvCell p.1 2
  | 6 => copyCell p.1

/-- Their invariants at the names `K`, the barrier cells' first rounds, and the levels. -/
def invAll (K : Dev nD × Fin 7 → ℕ) : sProp 𝕄 := bigSep Finset.univ fun p => cellInv ER (Rd m) (K p) (cellAt p)
def reachBar : sProp 𝕄 := bigSep Finset.univ fun n : Dev nD => reached ER (barCell n) 0
def ctx (K : Dev nD × Fin 7 → ℕ) : sProp 𝕄 := iprop(invAll m K ∗ reachBar ∗ levAts L lv)

instance invAll_persistent (K : Dev nD × Fin 7 → ℕ) : BI.Persistent (invAll m K) := by unfold invAll; infer_instance
omit [FloatOps F] in
instance reachBar_persistent : BI.Persistent (reachBar (F := F)) := by unfold reachBar; infer_instance
instance ctx_persistent (K : Dev nD × Fin 7 → ℕ) : BI.Persistent (ctx m K) := by unfold ctx; infer_instance

variable (K : Dev nD × Fin 7 → ℕ)

theorem ctx_inv (p : Dev nD × Fin 7) : ctx m K ⊢ cellInv ER (Rd m) (K p) (cellAt p) := by
  unfold ctx invAll
  iintro ⟨H, -, -⟩
  iapply (show (bigSep Finset.univ fun p => cellInv ER (Rd m) (K p) (cellAt p) : sProp 𝕄) ⊢ cellInv ER (Rd m) (K p) (cellAt p) from bigSep_elim (Finset.mem_univ p)) $$ H
theorem ctx_reach (n : Dev nD) : ctx m K ⊢ reached ER (barCell n) 0 := by
  unfold ctx reachBar
  iintro ⟨-, H, -⟩
  iapply (show (bigSep Finset.univ fun n : Dev nD => reached ER (barCell n) 0 : sProp 𝕄) ⊢ reached ER (barCell n) 0 from bigSep_elim (Finset.mem_univ n)) $$ H
theorem ctx_lev : ctx m K ⊢ levAts L lv := by
  unfold ctx
  iintro ⟨-, -, H⟩; iexact H

def sendIx (s : Fin 2) : Fin 7 := ⟨1 + s.val, by omega⟩
def recvIx (j : Fin 3) : Fin 7 := ⟨3 + j.val, by omega⟩
theorem ctx_bar (c : Dev nD) : ctx m K ⊢ cellInv ER (Rd m) (K (c, 0)) (barCell c) := ctx_inv m K (c, 0)
theorem ctx_send (c : Dev nD) (s : Fin 2) : ctx m K ⊢ cellInv ER (Rd m) (K (c, sendIx s)) (sendCell c s) := by
  rw [show sendCell c s = cellAt (c, sendIx s) from by fin_cases s <;> rfl]; exact ctx_inv m K _
theorem ctx_recv (c : Dev nD) (j : Fin 3) : ctx m K ⊢ cellInv ER (Rd m) (K (c, recvIx j)) (recvCell c j) := by
  rw [show recvCell c j = cellAt (c, recvIx j) from by fin_cases j <;> rfl]; exact ctx_inv m K _
theorem ctx_copy (c : Dev nD) : ctx m K ⊢ cellInv ER (Rd m) (K (c, 6)) (copyCell c) := ctx_inv m K (c, 6)

/-- Device `c` owes `O`. -/
def ow (c : Dev nD) (O : CellTallies nD τ sig Unit) : sProp 𝕄 := iprop(∃ W, owes (c : Thread nD τ) O W)
/-- Device `c` stands at the start of round `r` of its cell `sm`. -/
def atp (c : Dev nD) (sm : SemLoc sig) (r : ℕ) : sProp 𝕄 :=
  iprop(atPos ER ((c : Thread nD τ), sm) r ∅ 0 ∗ reached ER ((c : Thread nD τ), sm) r)

/-- What device `c` pays device `n`'s barrier cell with, for `n` other than `c`. -/
def Sg (c n : Dev nD) : sProp 𝕄 := if n = c then iprop(emp) else iprop(dutyTok ER (barCell n) 0 c ∗ barPay n c)

/-! ## The barrier -/

/-- The signal to device `n`, made unless `n` is the device itself. -/
theorem step_signal (c n n' : Dev nD) (hn : n' = n) {P : Prop} [Decidable P] (hP : P ↔ n ≠ c) (O : CellTallies nD τ sig Unit)
    {k : PUnit → Prog (TpuEff nD τ sig (Elt F) Λ₀ .tc) PUnit} {Kt : PUnit → sProp 𝕄} :
    iprop(ctx m K ∗ ow c (O + owedBar c n) ∗ Sg c n) ⊢ iprop((ow c O -∗ wpB c (k ⟨⟩) Kt)
      -∗ wpB c (if P then .op (.semSignal ((n' : Dev nD) : Thread nD τ) barS 1) k else k ⟨⟩) Kt) := by
  subst hn
  by_cases h : n' = c
  · rw [if_neg (fun hp => (hP.mp hp) h)]
    have hO : O + owedBar c n' = O := by
      unfold owedBar; rw [if_pos h]
      funext g; refine Finsupp.ext fun u => ?_
      rw [Pi.add_apply, Finsupp.add_apply, tallyAt_apply]; simp
    rw [hO]
    iintro ⟨-, HO, -⟩ Hk
    iapply Hk; iexact HO
  · rw [if_pos (hP.mpr h)]
    unfold ow Sg owedBar; rw [if_neg h, if_neg h]
    iintro ⟨#Hc, ⟨%W, HO⟩, HtP, Hp⟩ Hk
    iapply (Rounds.wp_signal 𝒱₀ ER (Rd m) (c : Thread nD τ) none (dst := ((n' : Dev nD) : Thread nD τ)) (sem := barS) (r := 0) (d := c) (κ := K (n', 0))
        (by rw [duties_bar]; exact Finset.mem_erase.mpr ⟨fun e => h e.symm, Finset.mem_univ _⟩) (amount_bar m n' 0 c) () O rfl)
      $$ [HO HtP Hp]
    · isplitr; · iapply (ctx_bar m K n') $$ Hc
      isplitl [HO]; · iexact HO
      isplitl [HtP]; · iexact HtP
      isplitl [Hp]; · rw [payload_bar]; iexact Hp
      iapply (ctx_reach m K n') $$ Hc
    iintro HO; iapply Hk; iexists W; iexact HO

/-- The wait for the other three. -/
theorem step_barrier (c : Dev nD) {k : PUnit → Prog (TpuEff nD τ sig (Elt F) Λ₀ .tc) PUnit} {Kt : PUnit → sProp 𝕄} :
    iprop(ctx m K ∗ cred (tallyAt (barCell c) () 3) ∗ ow c (owedFrom c 0) ∗ atp c (.reg barS) 0) ⊢
      iprop(((ow c (owedFrom c 0) ∗ atp c (.reg barS) 1 ∗ peer c 0 ∗ peer c 1 ∗ peer c 2) -∗ wpB c (k ⟨⟩) Kt)
      -∗ wpB c (.op (.semWait barS 3) k) Kt) := by
  unfold ow atp
  iintro ⟨#Hc, Hcr, ⟨%W, HO⟩, Hat, -⟩ Hk
  iapply (Rounds.wp_wait_rest_token 𝒱₀ ER (Rd m) (c : Thread nD τ) none (κ := K (c, 0))
      (wpE_semWait_eq 𝒱₀ (c : Thread nD τ) none Set.univ) (Set.mem_univ _) () (O := owedFrom c 0) (W := W) (R := 0) (m := 0) (T := ∅)
      ((Nat.zero_add 3).trans (expect_bar m c).symm)) $$ [Hcr HO Hat]
  · isplitr; · iapply (ctx_bar m K c) $$ Hc
    isplitl [Hcr]; · iexact Hcr
    isplitl [HO]; · iexact HO
    isplitr; · iapply (mayWait_low c (.reg barS) (show 1 ≤ 2 by decide) 0); iapply (ctx_lev m K) $$ Hc
    iexact Hat
  iintro ⟨HO, Hat, Hr, Hpay⟩
  ihave Hp := (Entails.of_eq (rest_bar m c)) $$ Hpay
  iapply Hk
  isplitl [HO]; · iexists _; iexact HO
  isplitl [Hat Hr]; · isplitl [Hat]; · iexact Hat
                      iexact Hr
  iexact Hp

/-! ## Messages -/

theorem owedFrom_step (c : Dev nD) (j : Fin 3) : owedFrom c j.val = owedFrom c (j.val + 1) + tallyAt (recvCell (dst c j.val) j) () NB := by
  fin_cases j <;> rfl

/-- The send of step `j`, out of sending slot `s` in its round `r`. -/
theorem step_send (c : Dev nD) (j : Fin 3) (s : Fin 2) (r : ℕ) (hd : (Rd (F := F) m).duties (sendCell c s) r = {0})
    {sv dv : Memref sig .tc .vmem S2048x1024 .bf16} {d' : Dev nD} {sS sR : DmaSem sig} (hsv : sv = sendM s) (hdv : dv = stageM j)
    (hd' : d' = dst c j.val) (hsS : sS = sendS s) (hsR : sR = recvS j) {h1 h2 h3}
    {k : PUnit → Prog (TpuEff nD τ sig (Elt F) Λ₀ .tc) PUnit} {Kt : PUnit → sProp 𝕄} :
    iprop(ctx m K ∗ owns (c : Thread nD τ) (sendM s) fullShare (msg m c j.val) ∗ peer c j ∗ ow c (owedFrom c j.val)
        ∗ dutyTok ER (sendCell c s) r 0 ∗ reached ER (sendCell c s) r ∗ dutyTok ER (recvCell (dst c j.val) j) 0 0)
      ⊢ iprop(((cred (tallyAt (sendCell c s) () NB) ∗ ow c (owedFrom c (j.val + 1))) -∗ wpB c (k ⟨⟩) Kt)
      -∗ wpB c (.op (.enqueueDma sv (.remote (Dev.tc d') dv (.dma sS)) (.dma sR) h1 h2 h3) k) Kt) := by
  subst hsv hdv hd' hsS hsR
  unfold ow peer anyAt
  have ho : (owns (c : Thread nD τ) (sendM s) fullShare (msg m c j.val) : sProp 𝕄)
      ⊢ iprop(∃ f, ⌜(sendM s).view.read (Elt F) f = msg m c j.val⌝ ∗ ((sendM s).view.loc (c : Thread nD τ) ↦[(sendM s).view.set]{fullShare} f)) := .rfl
  have hp (X) : (owns ((dst c j.val : Dev nD) : Thread nD τ) (stageM j) fullShare X : sProp 𝕄)
      ⊢ iprop(∃ f, ⌜(stageM j).view.read (Elt F) f = X⌝ ∗ ((stageM j).view.loc ((dst c j.val : Dev nD) : Thread nD τ) ↦[(stageM j).view.set]{fullShare} f)) := .rfl
  iintro ⟨#Hc, Hs, ⟨⟨%X, Hd⟩, #HrR⟩, ⟨%W, HO⟩, HtS, #HrS, HtR⟩ Hk
  ihave Hs' := ho $$ Hs
  icases Hs' with ⟨%fs, %hfs, Hs⟩
  ihave Hd' := (hp X) $$ Hd
  icases Hd' with ⟨%fd, -, Hd⟩
  iapply (Rounds.wp_send_pointsTo 𝒱₀ ER (Rd m) (c : Thread nD τ) none (c' := ((dst c j.val : Dev nD) : Thread nD τ)) (src := sendM s) (dst := stageM j)
      (sS := .dma (sendS s)) (sem := .dma (recvS j)) (q := fullShare) (fs := fs) (κ₁ := K (c, sendIx s)) (κ₂ := K (dst c j.val, recvIx j))
      (r₁ := r) (r₂ := 0) (d₁ := 0) (d₂ := 0) (fd := fd)
      (by rw [hd]; exact Finset.mem_singleton_self _) (by rw [duties_recv]; exact Finset.mem_singleton_self _)
      () () NB (stage_credit j) (amount_send m c s r 0) (amount_recv m (dst c j.val) j 0 0) (owedFrom c (j.val + 1)) (owedFrom_step c j) (W := W)
      (by rw [payload_send]; unfold sendPay; exact (owns_intro _ _ _ _).trans (anyAt_intro c _ _))
      (by
        rw [payload_recv]; unfold recvPay; rw [src_dst, ← hfs]
        refine (owns_intro _ _ _ _).trans ?_
        rw [View.read_write_univ])) $$ [Hs Hd HO HtS HtR]
  · isplitr; · iapply (ctx_send m K c s) $$ Hc
    isplitr; · iapply (ctx_recv m K (dst c j.val) j) $$ Hc
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hcr, HO⟩
  iapply Hk
  isplitl [Hcr]; · iexact Hcr
  iexists _; iexact HO

/-- The wait for the message of sending slot `s`'s round `r` to be read out. -/
theorem step_wait_send (c : Dev nD) (s : Fin 2) (r n : ℕ) (hd : (Rd (F := F) m).duties (sendCell c s) r = {0})
    {sS : DmaSem sig} {sv dv : Memref sig .tc .vmem S2048x1024 .bf16} (hsS : sS = sendS s) (hv : dv = sendM s) {h1 h2}
    {k : PUnit → Prog (TpuEff nD τ sig (Elt F) Λ₀ .tc) PUnit} {Kt : PUnit → sProp 𝕄} :
    iprop(ctx m K ∗ cred (tallyAt (sendCell c s) () NB) ∗ ow c (owedFrom c n) ∗ atp c (.dma (sendS s)) r)
      ⊢ iprop(((ow c (owedFrom c n) ∗ atp c (.dma (sendS s)) (r + 1) ∗ anyAt c (sendM s)) -∗ wpB c (k ⟨⟩) Kt)
      -∗ wpB c (.op (.waitDma2 sS sv dv h1 h2) k) Kt) := by
  subst hsS hv
  unfold ow atp
  iintro ⟨#Hc, Hcr, ⟨%W, HO⟩, Hat, -⟩ Hk
  iapply (Rounds.wp_wait_rest_token 𝒱₀ ER (Rd m) (c : Thread nD τ) none (κ := K (c, sendIx s)) (k' := NB)
      (fun Kc => (wpE_waitDma2_eq (src := sv) (dst := sendM s) 𝒱₀ (c : Thread nD τ) none Set.univ Kc).trans (by rw [send_credit])) (Set.mem_univ _) () (O := owedFrom c n) (W := W) (R := r) (m := 0) (T := ∅)
      ((Nat.zero_add _).trans (expect_single m hd (amount_send m c s r 0)).symm)) $$ [Hcr HO Hat]
  · isplitr; · iapply (ctx_send m K c s) $$ Hc
    isplitl [Hcr]; · iexact Hcr
    isplitl [HO]; · iexact HO
    isplitr; · iapply (mayWait_low c (.dma (sendS s)) (by fin_cases s <;> exact Nat.le_refl 2) n); iapply (ctx_lev m K) $$ Hc
    iexact Hat
  iintro ⟨HO, Hat, Hr, Hpay⟩
  ihave Hp := (Entails.of_eq (rest_single m hd (payload_send m c s r 0))) $$ Hpay
  iapply Hk
  isplitl [HO]; · iexists _; iexact HO
  isplitl [Hat Hr]; · isplitl [Hat]; · iexact Hat
                      iexact Hr
  unfold sendPay; iexact Hp

/-- The wait for the message of step `j` to land, nothing being owed any more. -/
theorem step_wait_recv (c : Dev nD) (j : Fin 3) {sR : DmaSem sig} {sv dv : Memref sig .tc .vmem S2048x1024 .bf16} (hsR : sR = recvS j) (hv : dv = stageM j) {h1 h2}
    {k : PUnit → Prog (TpuEff nD τ sig (Elt F) Λ₀ .tc) PUnit} {Kt : PUnit → sProp 𝕄} :
    iprop(ctx m K ∗ cred (tallyAt (recvCell c j) () NB) ∗ ow c 0 ∗ atp c (.dma (recvS j)) 0)
      ⊢ iprop(((ow c 0 ∗ atp c (.dma (recvS j)) 1 ∗ owns (c : Thread nD τ) (stageM j) fullShare (msg m (src c (j.val + 1)) j.val)) -∗ wpB c (k ⟨⟩) Kt)
      -∗ wpB c (.op (.waitDma2 sR sv dv h1 h2) k) Kt) := by
  subst hsR hv
  unfold ow atp
  iintro ⟨#Hc, Hcr, ⟨%W, HO⟩, Hat, -⟩ Hk
  iapply (Rounds.wp_wait_rest_token 𝒱₀ ER (Rd m) (c : Thread nD τ) none (κ := K (c, recvIx j)) (k' := NB)
      (fun Kc => (wpE_waitDma2_eq (src := sv) (dst := stageM j) 𝒱₀ (c : Thread nD τ) none Set.univ Kc).trans (by rw [stage_credit])) (Set.mem_univ _) () (O := 0) (W := W) (R := 0) (m := 0) (T := ∅)
      ((Nat.zero_add _).trans (expect_recv m c j).symm)) $$ [Hcr HO Hat]
  · isplitr; · iapply (ctx_recv m K c j) $$ Hc
    isplitl [Hcr]; · iexact Hcr
    isplitl [HO]; · iexact HO
    isplitr; · rw [MayWait_zero]; iempintro
    iexact Hat
  iintro ⟨HO, Hat, Hr, Hpay⟩
  ihave Hp := (Entails.of_eq (rest_recv m c j)) $$ Hpay
  iapply Hk
  isplitl [HO]; · iexists _; iexact HO
  isplitl [Hat Hr]; · isplitl [Hat]; · iexact Hat
                      iexact Hr
  unfold recvPay; iexact Hp

/-! ## The copies into the result -/

/-- The copy of the accumulator into block `src c R` of the result, and its wait. -/
theorem step_copy (c : Dev nD) (R : ℕ) (hR : R < 4) {ov ov' : Memref sig .tc .hbm S2048x1024 .f32} {sC sC' : DmaSem sig} (hov : ov = outM (src c R)) (hov' : ov' = outM (src c R))
    (hsC : sC = copyS) (hsC' : sC' = copyS) {h1 h2 h3 h4 h5}
    {k : PUnit → Prog (TpuEff nD τ sig (Elt F) Λ₀ .tc) PUnit} {Kt : PUnit → sProp 𝕄} :
    iprop(ctx m K ∗ owns (c : Thread nD τ) accM fullShare (outBlk m c R) ∗ anyAt c (outM (src c R)) ∗ ow c 0 ∗ dutyTok ER (copyCell c) R 0 ∗ atp c (.dma copyS) R)
      ⊢ iprop(((ow c 0 ∗ atp c (.dma copyS) (R + 1) ∗ owns (c : Thread nD τ) (outM (src c R)) fullShare (outBlk m c R) ∗ anyAt c accM) -∗ wpB c (k ⟨⟩) Kt)
      -∗ wpB c (.op (.enqueueDma accM (.here ov) (.dma sC) h1 h2 h3) fun _ => .op (.waitDma2 sC' accM ov' h4 h5) k) Kt) := by
  subst hov hov' hsC hsC'
  unfold ow atp
  have ho : (owns (c : Thread nD τ) accM fullShare (outBlk m c R) : sProp 𝕄)
      ⊢ iprop(∃ f, ⌜accM.view.read (Elt F) f = outBlk m c R⌝ ∗ (accM.view.loc (c : Thread nD τ) ↦[accM.view.set]{fullShare} f)) := .rfl
  have hp : (anyAt c (outM (src c R)) : sProp 𝕄)
      ⊢ iprop(∃ X, ∃ f, ⌜(outM (src c R)).view.read (Elt F) f = X⌝ ∗ ((outM (src c R)).view.loc (c : Thread nD τ) ↦[(outM (src c R)).view.set]{fullShare} f)) := .rfl
  iintro ⟨#Hc, Hs, Hd, ⟨%W, HO⟩, Ht, Hat, #HrC⟩ Hk
  ihave Hs' := ho $$ Hs
  icases Hs' with ⟨%fs, %hfs, Hs⟩
  ihave Hd' := hp $$ Hd
  icases Hd' with ⟨%X, %fd, -, Hd⟩
  iapply (Rounds.wp_copy_pointsTo 𝒱₀ ER (Rd m) (c : Thread nD τ) none (src := accM) (dst := outM (src c R)) (sem := .dma copyS) (q := fullShare)
      (fs := fs) (fd := fd) (r := R) (d := 0) (κ := K (c, 6))
      (by rw [duties_copy m c R hR]; exact Finset.mem_singleton_self _) () NC (out_credit (src c R)) (amount_copy m c R 0)
      (by
        rw [payload_copy]; unfold copyPay; rw [← hfs]
        refine BI.sep_mono ((owns_intro _ _ _ _).trans ?_) ((owns_intro _ _ _ _).trans (anyAt_intro c _ _))
        rw [View.read_write_univ])) $$ [Hs Hd Ht]
  · isplitr; · iapply (ctx_copy m K c) $$ Hc
    isplitl [Hs]; · iexact Hs
    isplitl [Hd]; · iexact Hd
    isplitl [Ht]; · iexact Ht
    iexact HrC
  iintro Hcr
  iapply (Rounds.wp_wait_rest_token 𝒱₀ ER (Rd m) (c : Thread nD τ) none (κ := K (c, 6)) (k' := NC)
      (fun Kc => (wpE_waitDma2_eq (src := accM) (dst := outM (src c R)) 𝒱₀ (c : Thread nD τ) none Set.univ Kc).trans (by rw [out_credit])) (Set.mem_univ _) () (O := 0) (W := W) (R := R) (m := 0) (T := ∅)
      ((Nat.zero_add _).trans (expect_copy m c R hR).symm)) $$ [Hcr HO Hat]
  · isplitr; · iapply (ctx_copy m K c) $$ Hc
    isplitl [Hcr]; · iexact Hcr
    isplitl [HO]; · iexact HO
    isplitr; · rw [MayWait_zero]; iempintro
    iexact Hat
  iintro ⟨HO, Hat, Hr, Hpay⟩
  ihave Hp := (Entails.of_eq (rest_copy m c R hR)) $$ Hpay
  iapply Hk
  isplitl [HO]; · iexists _; iexact HO
  isplitl [Hat Hr]; · isplitl [Hat]; · iexact Hat
                      iexact Hr
  unfold copyPay; iexact Hp

end Cert.KernelIdeal.Run

end
-- ==== Proof.Body.lean ====
/-
  The kernel body on a device `c`, at each kind of grid point `(j, k)`. `T0` … `T5` are what the device holds of the
  protocol: before the barrier, after it with no, one, two, three messages sent, and at the end. At `(0, 0)` the body runs
  the barrier; at every point it starts or continues the accumulator; at `k = 7` it sends the message of step `j < 3`,
  after waiting, at step 2, for the sending slot; at `(3, 7)` it writes the four blocks of the result.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 4000

/-! ## What a device holds of the protocol -/

/-- The sending slot of step `j`. -/
def slotS (j : Fin 3) : Fin 2 := ⟨j.val % 2, Nat.mod_lt _ (by decide)⟩
/-- The two duties the send of step `j` pays. -/
def snd (c : Dev nD) (j : Fin 3) : sProp 𝕄 :=
  iprop(dutyTok ER (recvCell (dst c j.val) j) 0 0 ∗ dutyTok ER (sendCell c (slotS j)) (j.val / 2) 0)
/-- What the last point uses: the credits of the messages to come, the positions, the copies' duties, the result. -/
def rest (c : Dev nD) : sProp 𝕄 :=
  iprop((cred (tallyAt (recvCell c 0) () NB) ∗ cred (tallyAt (recvCell c 1) () NB) ∗ cred (tallyAt (recvCell c 2) () NB))
    ∗ atp c (.dma (sendS 1)) 0 ∗ (atp c (.dma (recvS 0)) 0 ∗ atp c (.dma (recvS 1)) 0 ∗ atp c (.dma (recvS 2)) 0) ∗ atp c (.dma copyS) 0
    ∗ (dutyTok ER (copyCell c) 0 0 ∗ dutyTok ER (copyCell c) 1 0 ∗ dutyTok ER (copyCell c) 2 0 ∗ dutyTok ER (copyCell c) 3 0)
    ∗ (anyAt c (outM (src c 0)) ∗ anyAt c (outM (src c 1)) ∗ anyAt c (outM (src c 2)) ∗ anyAt c (outM (src c 3))))

def T0 (c : Dev nD) : sProp 𝕄 :=
  iprop((Sg c 0 ∗ Sg c 1 ∗ Sg c 2 ∗ Sg c 3) ∗ cred (tallyAt (barCell c) () 3) ∗ atp c (.reg barS) 0
    ∗ (snd c 0 ∗ snd c 1 ∗ snd c 2) ∗ (anyAt c (sendM 0) ∗ anyAt c (sendM 1)) ∗ atp c (.dma (sendS 0)) 0 ∗ rest c)
def T1 (c : Dev nD) : sProp 𝕄 :=
  iprop(atp c (.reg barS) 1 ∗ ((peer c 0 ∗ snd c 0) ∗ (peer c 1 ∗ snd c 1) ∗ (peer c 2 ∗ snd c 2))
    ∗ (anyAt c (sendM 0) ∗ anyAt c (sendM 1)) ∗ atp c (.dma (sendS 0)) 0 ∗ rest c)
def T2 (c : Dev nD) : sProp 𝕄 :=
  iprop(atp c (.reg barS) 1 ∗ ((peer c 1 ∗ snd c 1) ∗ (peer c 2 ∗ snd c 2))
    ∗ (cred (tallyAt (sendCell c 0) () NB) ∗ anyAt c (sendM 1)) ∗ atp c (.dma (sendS 0)) 0 ∗ rest c)
def T3 (c : Dev nD) : sProp 𝕄 :=
  iprop(atp c (.reg barS) 1 ∗ (peer c 2 ∗ snd c 2)
    ∗ (cred (tallyAt (sendCell c 0) () NB) ∗ cred (tallyAt (sendCell c 1) () NB)) ∗ atp c (.dma (sendS 0)) 0 ∗ rest c)
def T4 (c : Dev nD) : sProp 𝕄 :=
  iprop(atp c (.reg barS) 1
    ∗ (cred (tallyAt (sendCell c 0) () NB) ∗ cred (tallyAt (sendCell c 1) () NB)) ∗ atp c (.dma (sendS 0)) 1 ∗ rest c)
/-- At the end: every counter at zero, the buffers of the messages, and the four blocks of the result. -/
def T5 (c : Dev nD) : sProp 𝕄 :=
  iprop(semVal (barCell c) 0
    ∗ (semVal (sendCell c 0) 0 ∗ semVal (sendCell c 1) 0 ∗ semVal (recvCell c 0) 0 ∗ semVal (recvCell c 1) 0 ∗ semVal (recvCell c 2) 0 ∗ semVal (copyCell c) 0)
    ∗ (anyAt c (stageM 0) ∗ anyAt c (stageM 1) ∗ anyAt c (stageM 2)) ∗ (anyAt c (sendM 0) ∗ anyAt c (sendM 1))
    ∗ (owns (c : Thread nD τ) (outM (src c 0)) fullShare (outBlk m c 0) ∗ owns (c : Thread nD τ) (outM (src c 1)) fullShare (outBlk m c 1)
      ∗ owns (c : Thread nD τ) (outM (src c 2)) fullShare (outBlk m c 2) ∗ owns (c : Thread nD τ) (outM (src c 3)) fullShare (outBlk m c 3)))

/-! ## The table, the accumulator, the slots -/

variable (K : Dev nD × Fin 7 → ℕ)

theorem zero2 : (![0, 0] : Fin 2 → ℕ) = fun _ => 0 := by funext a; fin_cases a <;> rfl
theorem zero1 : (![0] : Fin 1 → ℕ) = fun _ => 0 := by funext a; fin_cases a; rfl

/-- The table of device `c`. -/
abbrev tblAt (c : Dev nD) : sProp 𝕄 := owns (c : Thread nD τ) (Memref.whole main_v5) fullShare (fun _ => word c)

/-- Reading the position out of the table. -/
theorem step_word (c : Dev nD) {inb} {hl : (Memref.whole main_v5).view.LoadsAt (Rect.unit (s := S1) ![0] S1.size inb).toLoadRect}
    {k : (S1.Idx → Elt F .i32) → Prog (TpuEff nD τ sig (Elt F) Λ₀ .tc) PUnit} {Kt : PUnit → sProp 𝕄} :
    tblAt c ⊢ iprop((tblAt c -∗ wpB c (k fun _ => word c) Kt) -∗ wpB c (.op (.load (Memref.whole main_v5) (Rect.unit (s := S1) ![0] S1.size inb).toLoadRect hl) k) Kt) :=
  step_load_whole c (v := Memref.whole main_v5) zero1

section Acc

variable (c : Dev nD) {xv : Memref sig .tc .vmem S2048x1024 .f32} {wv : Memref sig .tc .vmem S1024x1024 .f32}
  {X : Vec F S2048x1024 .f32} {W : Vec F S1024x1024 .f32} {k : PUnit → Prog (TpuEff nD τ sig (Elt F) Λ₀ .tc) PUnit}

/-- Starting the accumulator with the product of the two staged blocks. -/
theorem acc_start {i1 i2 i3 i4 l1 l2 l3 x4 m4} {Kt : PUnit → sProp 𝕄} :
    iprop(owns (c : Thread nD τ) xv fullShare X ∗ owns (c : Thread nD τ) wv fullShare W ∗ anyAt c accM)
      ⊢ iprop(((owns (c : Thread nD τ) xv fullShare X ∗ owns (c : Thread nD τ) wv fullShare W ∗ owns (c : Thread nD τ) accM fullShare (k0_pay2 X W)) -∗ wpB c (k ⟨⟩) Kt)
        -∗ wpB c (.op (.load xv (Rect.unit (s := S2048x1024) ![0, 0] S2048x1024.size i1).toLoadRect l1) fun v10 =>
          .op (.load wv (Rect.unit (s := S1024x1024) ![0, 0] S1024x1024.size i2).toLoadRect l2) fun v12 =>
          .op (.load accM (Rect.unit (s := S2048x1024) ![0, 0] S2048x1024.size i3).toLoadRect l3) fun _ =>
          .op (.store accM (Rect.unit (s := S2048x1024) ![0, 0] S2048x1024.size i4) (k0_pay2 v10 v12) Finset.univ x4 m4) k) Kt) := by
  iintro ⟨Hx, Hw, Ha⟩ Hk
  iapply (step_load_whole c (v := xv) zero2) $$ Hx; iintro Hx
  iapply (step_load_whole c (v := wv) zero2) $$ Hw; iintro Hw
  ihave Ha' := (show (anyAt c accM : sProp 𝕄) ⊢ iprop(∃ Y, owns (c : Thread nD τ) accM fullShare Y) from .rfl) $$ Ha
  icases Ha' with ⟨%Y, Ha⟩
  iapply (step_load_whole c (v := accM) zero2) $$ Ha; iintro Ha
  ihave Ha := (anyAt_intro c accM Y) $$ Ha
  iapply (step_store_whole c (v := accM) zero2) $$ Ha; iintro Ha
  iapply Hk
  isplitl [Hx]; · iexact Hx
  isplitl [Hw]; · iexact Hw
  iexact Ha

/-- Adding the product of the two staged blocks to the accumulator. -/
theorem acc_step {Y : Vec F S2048x1024 .f32} {i1 i2 i3 i4 i5 l1 l2 l3 l4 x5 m5} {Kt : PUnit → sProp 𝕄} :
    iprop(owns (c : Thread nD τ) xv fullShare X ∗ owns (c : Thread nD τ) wv fullShare W ∗ owns (c : Thread nD τ) accM fullShare Y)
      ⊢ iprop(((owns (c : Thread nD τ) xv fullShare X ∗ owns (c : Thread nD τ) wv fullShare W ∗ owns (c : Thread nD τ) accM fullShare (k0_pay3 X W Y)) -∗ wpB c (k ⟨⟩) Kt)
        -∗ wpB c (.op (.load xv (Rect.unit (s := S2048x1024) ![0, 0] S2048x1024.size i1).toLoadRect l1) fun v10 =>
          .op (.load wv (Rect.unit (s := S1024x1024) ![0, 0] S1024x1024.size i2).toLoadRect l2) fun v12 =>
          .op (.load accM (Rect.unit (s := S2048x1024) ![0, 0] S2048x1024.size i3).toLoadRect l3) fun v24 =>
          .op (.load accM (Rect.unit (s := S2048x1024) ![0, 0] S2048x1024.size i4).toLoadRect l4) fun _ =>
          .op (.store accM (Rect.unit (s := S2048x1024) ![0, 0] S2048x1024.size i5) (k0_pay3 v10 v12 v24) Finset.univ x5 m5) k) Kt) := by
  iintro ⟨Hx, Hw, Ha⟩ Hk
  iapply (step_load_whole c (v := xv) zero2) $$ Hx; iintro Hx
  iapply (step_load_whole c (v := wv) zero2) $$ Hw; iintro Hw
  iapply (step_load_whole c (v := accM) zero2) $$ Ha; iintro Ha
  iapply (step_load_whole c (v := accM) zero2) $$ Ha; iintro Ha
  ihave Ha := (anyAt_intro c accM Y) $$ Ha
  iapply (step_store_whole c (v := accM) zero2) $$ Ha; iintro Ha
  iapply Hk
  isplitl [Hx]; · iexact Hx
  isplitl [Hw]; · iexact Hw
  iexact Ha

end Acc

/-! ## Sending -/

theorem sendSem_eq (s : Fin 2) {off : Fin 1 → ℕ} (h : off = ![s.val]) (inb) :
    ((SemArray.slice cc0_scratch3 (Rect.unit (s := S2) off S1.size inb)).squeeze S_ squeezes_S1_S_).sem = sendS s := by
  subst h; fin_cases s <;> revert inb <;> decide
theorem recvSem_eq (j : Fin 3) {off : Fin 1 → ℕ} (h : off = ![j.val]) (inb) :
    ((SemArray.slice cc0_scratch4 (Rect.unit (s := S3) off S1.size inb)).squeeze S_ squeezes_S1_S_).sem = recvS j := by
  subst h; fin_cases j <;> revert inb <;> decide
theorem sendV_eq (s : Fin 2) {off : Fin 2 → ℕ} (h : off = ![2048 * s.val, 0]) (inb hs) :
    (Memref.whole cc0_scratch1).slice (Rect.unit (s := S4096x1024) off S2048x1024.size inb) hs = sendM s := by subst h; rfl
theorem stageV_eq (j : Fin 3) {off : Fin 2 → ℕ} (h : off = ![2048 * j.val, 0]) (inb hs) :
    (Memref.whole cc0_scratch2).slice (Rect.unit (s := S6144x1024) off S2048x1024.size inb) hs = stageM j := by subst h; rfl
theorem outV_eq (b : Fin 4) {off : Fin 2 → ℕ} (h : off = ![2048 * b.val, 0]) (inb hs) :
    (Memref.whole main_v6).slice (Rect.unit (s := S8192x1024) off S2048x1024.size inb) hs = outM b := by subst h; rfl

theorem off1_at (i : grid0.Coords) (j : Fin 3) (h : (i 0).val = j.val) : k0_off1 i = ![2048 * (slotS j).val, 0] := by
  rw [k0_off1_eq, h]; rfl
theorem off5_at (i : grid0.Coords) (j : Fin 3) (h : (i 0).val = j.val) : k0_off5 i = ![2048 * (slotS j).val, 0] := by
  rw [k0_off5_eq, h]; rfl
theorem off2_at (i : grid0.Coords) (j : Fin 3) (h : (i 0).val = j.val) : k0_off2 i = ![(slotS j).val] := by
  rw [k0_off2_eq, h]; rfl
theorem off3_at (i : grid0.Coords) (j : Fin 3) (h : (i 0).val = j.val) : k0_off3 i = ![j.val] := by
  rw [k0_off3_eq, h]
theorem off4_at (i : grid0.Coords) (j : Fin 3) (h : (i 0).val = j.val) : k0_off4 i = ![2048 * j.val, 0] := by
  rw [k0_off4_eq, h]

theorem duties_slot (c : Dev nD) (j : Fin 3) : (Rd (F := F) m).duties (sendCell c (slotS j)) (j.val / 2) = {0} := by
  fin_cases j
  · exact duties_send0 m c 0 (by decide)
  · exact duties_send1 m c
  · exact duties_send0 m c 1 (by decide)

/-- Loads and a store of the sending slot, and a load of a landing slot, at the offsets the kernel computes. -/
theorem step_load_sendX (c : Dev nD) (s : Fin 2) {off : Fin 2 → ℕ} (h : off = ![2048 * s.val, 0]) {inb X l}
    {k : (S2048x1024.Idx → Elt F .bf16) → Prog (TpuEff nD τ sig (Elt F) Λ₀ .tc) PUnit} {Kt : PUnit → sProp 𝕄} :
    (owns (c : Thread nD τ) (sendM s) fullShare X) ⊢ iprop((owns (c : Thread nD τ) (sendM s) fullShare X -∗ wpB c (k X) Kt)
      -∗ wpB c (.op (.load (Memref.whole cc0_scratch1) (Rect.unit (s := S4096x1024) off S2048x1024.size inb).toLoadRect l) k) Kt) := by
  subst h; exact step_load c (v := Memref.whole cc0_scratch1) (fun _ => rfl)
theorem step_load_send (c : Dev nD) (s : Fin 2) {off : Fin 2 → ℕ} (h : off = ![2048 * s.val, 0]) {inb l}
    {k : (S2048x1024.Idx → Elt F .bf16) → Prog (TpuEff nD τ sig (Elt F) Λ₀ .tc) PUnit} {Kt : PUnit → sProp 𝕄} :
    (anyAt c (sendM s)) ⊢ iprop((anyAt c (sendM s) -∗ ∀ Z, wpB c (k Z) Kt)
      -∗ wpB c (.op (.load (Memref.whole cc0_scratch1) (Rect.unit (s := S4096x1024) off S2048x1024.size inb).toLoadRect l) k) Kt) := by
  iintro H Hk
  ihave H' := (show (anyAt c (sendM s) : sProp 𝕄) ⊢ iprop(∃ Y, owns (c : Thread nD τ) (sendM s) fullShare Y) from .rfl) $$ H
  icases H' with ⟨%Y, H⟩
  iapply (step_load_sendX c s h) $$ H
  iintro H
  ihave H := (anyAt_intro c (sendM s) Y) $$ H
  ispecialize Hk $$ H
  iapply Hk
theorem step_store_send (c : Dev nD) (s : Fin 2) {off : Fin 2 → ℕ} (h : off = ![2048 * s.val, 0]) {inb w l hm}
    {k : PUnit → Prog (TpuEff nD τ sig (Elt F) Λ₀ .tc) PUnit} {Kt : PUnit → sProp 𝕄} :
    (anyAt c (sendM s)) ⊢ iprop((owns (c : Thread nD τ) (sendM s) fullShare w -∗ wpB c (k ⟨⟩) Kt)
      -∗ wpB c (.op (.store (Memref.whole cc0_scratch1) (Rect.unit (s := S4096x1024) off S2048x1024.size inb) w Finset.univ l hm) k) Kt) := by
  subst h; exact step_store c (v := Memref.whole cc0_scratch1) (fun _ => rfl)
theorem step_load_stage (c : Dev nD) (j : Fin 3) {off : Fin 2 → ℕ} (h : off = ![2048 * j.val, 0]) {inb X l}
    {k : (S2048x1024.Idx → Elt F .bf16) → Prog (TpuEff nD τ sig (Elt F) Λ₀ .tc) PUnit} {Kt : PUnit → sProp 𝕄} :
    (owns (c : Thread nD τ) (stageM j) fullShare X) ⊢ iprop((owns (c : Thread nD τ) (stageM j) fullShare X -∗ wpB c (k X) Kt)
      -∗ wpB c (.op (.load (Memref.whole cc0_scratch2) (Rect.unit (s := S6144x1024) off S2048x1024.size inb).toLoadRect l) k) Kt) := by
  subst h; exact step_load c (v := Memref.whole cc0_scratch2) (fun _ => rfl)

/-- The end of step `j`: the accumulator clipped and rounded into the sending slot, and sent. -/
theorem send_tail (c : Dev nD) (i : grid0.Coords) (j : Fin 3) (hj : (i 0).val = j.val) (Y : Vec F S2048x1024 .f32) (hY : k0_pay4 Y = msg m c j.val)
    {d' : Dev nD} (hd' : d' = dst c j.val)
    {i1 i2 i3 i4 i5 i6 i7 l1 l2 l3 hm hs1 hs2 h1 h2 h3} {k : PUnit → Prog (TpuEff nD τ sig (Elt F) Λ₀ .tc) PUnit} {Kt : PUnit → sProp 𝕄} :
    iprop(ctx m K ∗ owns (c : Thread nD τ) accM fullShare Y ∗ anyAt c (sendM (slotS j)) ∗ (peer c j ∗ snd c j)
        ∗ reached ER (sendCell c (slotS j)) (j.val / 2) ∗ ow c (owedFrom c j.val))
      ⊢ iprop(((anyAt c accM ∗ cred (tallyAt (sendCell c (slotS j)) () NB) ∗ ow c (owedFrom c (j.val + 1))) -∗ wpB c (k ⟨⟩) Kt)
        -∗ wpB c (.op (.load accM (Rect.unit (s := S2048x1024) ![0, 0] S2048x1024.size i1).toLoadRect l1) fun v35 =>
          .op (.load (Memref.whole cc0_scratch1) (Rect.unit (s := S4096x1024) (k0_off1 i) S2048x1024.size i2).toLoadRect l2) fun _ =>
          .op (.store (Memref.whole cc0_scratch1) (Rect.unit (s := S4096x1024) (k0_off1 i) S2048x1024.size i3) (k0_pay4 v35) Finset.univ l3 hm) fun _ =>
          .op (.enqueueDma ((Memref.whole cc0_scratch1).slice (Rect.unit (s := S4096x1024) (k0_off5 i) S2048x1024.size i4) hs1)
            (.remote (Dev.tc d') ((Memref.whole cc0_scratch2).slice (Rect.unit (s := S6144x1024) (k0_off4 i) S2048x1024.size i5) hs2)
              (.dma ((SemArray.slice cc0_scratch3 (Rect.unit (s := S2) (k0_off2 i) S1.size i6)).squeeze S_ squeezes_S1_S_).sem))
            (.dma ((SemArray.slice cc0_scratch4 (Rect.unit (s := S3) (k0_off3 i) S1.size i7)).squeeze S_ squeezes_S1_S_).sem) h1 h2 h3) k) Kt) := by
  unfold snd
  iintro ⟨#Hc, Ha, Hs, ⟨Hp, HtR, HtS⟩, Hr, HO⟩ Hk
  iapply (step_load_whole c (v := accM) zero2) $$ Ha; iintro Ha
  iapply (step_load_send c (slotS j) (off1_at i j hj)) $$ Hs; iintro Hs; iintro %Z
  iapply (step_store_send c (slotS j) (off1_at i j hj)) $$ Hs; iintro Hs
  iapply (step_send m K c j (slotS j) (j.val / 2) (duties_slot m c j) (sendV_eq (slotS j) (off5_at i j hj) _ _) (stageV_eq j (off4_at i j hj) _ _)
    hd' (sendSem_eq (slotS j) (off2_at i j hj) _) (recvSem_eq j (off3_at i j hj) _)) $$ [Hs Hp HO HtS HtR Hr]
  · isplitr; · iexact Hc
    isplitl [Hs]; · rw [← hY]; iexact Hs
    isplitl [Hp]; · iexact Hp
    isplitl [HO]; · iexact HO
    isplitl [HtS]; · iexact HtS
    isplitl [Hr]; · iexact Hr
    iexact HtR
  iintro ⟨Hcr, HO⟩
  iapply Hk
  isplitl [Ha]; · iapply (anyAt_intro c accM Y) $$ Ha
  isplitl [Hcr]; · iexact Hcr
  iexact HO

end Cert.KernelIdeal.Run

end
-- ==== Proof.Cases.lean ====
/-
  The kernel body at the grid points before the last: at `(0, 0)` it passes the barrier and starts the accumulator, at the
  other points `(j, 0)` it starts the accumulator, at `(j, k)` with `0 < k` it continues it, and at `(j, 7)`, `j < 3`, it
  also sends the message of step `j`.
-/
module

public import proofs.«01_k».proof.Proof.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ)

set_option maxRecDepth 4000

/-- The kernel body over the two staged blocks `xv`, `wv`. -/
abbrev bodyAt (i : grid0.Coords) (xv : Memref sig .tc .vmem S2048x1024 .f32) (hxv : xv.IsWhole) (wv : Memref sig .tc .vmem S1024x1024 .f32) (hwv : wv.IsWhole) :
    Prog (TpuEff nD τ sig (Elt F) Λ₀ .tc) PUnit :=
  cc0_body i (Memref.whole main_v5) (Memref.isWhole_whole _) xv hxv wv hwv (Memref.whole main_v6) (Memref.isWhole_whole _) accM (Memref.isWhole_whole _)
    (Memref.whole cc0_scratch1) (Memref.isWhole_whole _) (Memref.whole cc0_scratch2) (Memref.isWhole_whole _) cc0_scratch3 cc0_scratch4 cc0_scratch5

/-- A program that has returned. -/
theorem step_ret (c : Dev nD) {Kt : PUnit → sProp 𝕄} : Kt ⟨⟩ ⊢ wpB (F := F) c (.ret ⟨⟩) Kt := by
  unfold wpB; rw [wp_ret]; iintro H; imodintro; iexact H

section

variable (c : Dev nD) (i : grid0.Coords) {xv : Memref sig .tc .vmem S2048x1024 .f32} {hxv : xv.IsWhole} {wv : Memref sig .tc .vmem S1024x1024 .f32} {hwv : wv.IsWhole}
  {X : Vec F S2048x1024 .f32} {W : Vec F S1024x1024 .f32}

set_option maxHeartbeats 800000

/-- What every point reads and keeps: the table and the two staged blocks. -/
abbrev staged (xv : Memref sig .tc .vmem S2048x1024 .f32) (wv : Memref sig .tc .vmem S1024x1024 .f32) (X : Vec F S2048x1024 .f32) (W : Vec F S1024x1024 .f32) : sProp 𝕄 :=
  iprop(owns (c : Thread nD τ) xv fullShare X ∗ owns (c : Thread nD τ) wv fullShare W)

/-- At `(j, 0)` with `0 < j`: the accumulator is started. -/
theorem body_start (h0 : (i 0).val ≠ 0) (h1 : (i 1).val = 0) {Kt : PUnit → sProp 𝕄} :
    iprop(tblAt c ∗ staged c xv wv X W ∗ anyAt c accM)
      ⊢ iprop(((tblAt c ∗ staged c xv wv X W ∗ owns (c : Thread nD τ) accM fullShare (k0_pay2 X W)) -∗ Kt ⟨⟩)
        -∗ wpB c (bodyAt i xv hxv wv hwv) Kt) := by
  have c1 : ¬ k0_cond1 i = 1#1 := fun h => h0 ((cond1_iff i).mp h).1
  have c8 : ¬ k0_cond8 i = 1#1 := fun h => by have := (cond8_iff i).mp h; omega
  have cs := (start_iff i).mpr h1
  have cn := fun h => (step_iff i).mp h h1
  unfold wpB bodyAt
  rw [cc0_body_eq_skeleton]; unfold cc0_body_skel
  simp only [dif_neg c1, dif_neg c8, dif_pos cs, dif_neg cn, smemLoad, smemLoadElt, Prog.lift, Prog.bind_op, Prog.bind_ret, Prog.pure_eq_ret]
  iintro ⟨Ht, ⟨Hx, Hw⟩, Ha⟩ Hk
  iapply (step_word c) $$ Ht; iintro Ht
  iapply (wp_assume 𝒱₀ (c : Thread nD τ) none Set.univ (chk i c))
  iapply (acc_start c (X := X) (W := W)) $$ [Hx Hw Ha]
  · isplitl [Hx]; · iexact Hx
    isplitl [Hw]; · iexact Hw
    iexact Ha
  iintro ⟨Hx, Hw, Ha⟩
  iapply (step_ret c)
  iapply Hk
  isplitl [Ht]; · iexact Ht
  isplitl [Hx Hw]; · isplitl [Hx] <;> iassumption
  iexact Ha

/-- At `(j, k)` with `0 < k < 7`: the accumulator is continued. -/
theorem body_mid (h1 : (i 1).val ≠ 0) (h7 : (i 1).val ≠ 7) {Y : Vec F S2048x1024 .f32} {Kt : PUnit → sProp 𝕄} :
    iprop(tblAt c ∗ staged c xv wv X W ∗ owns (c : Thread nD τ) accM fullShare Y)
      ⊢ iprop(((tblAt c ∗ staged c xv wv X W ∗ owns (c : Thread nD τ) accM fullShare (k0_pay3 X W Y)) -∗ Kt ⟨⟩)
        -∗ wpB c (bodyAt i xv hxv wv hwv) Kt) := by
  have c1 : ¬ k0_cond1 i = 1#1 := fun h => h1 ((cond1_iff i).mp h).2
  have c8 : ¬ k0_cond8 i = 1#1 := fun h => h7 ((cond8_iff i).mp h)
  have cs := fun h => h1 ((start_iff i).mp h)
  have cn := (step_iff i).mpr h1
  unfold wpB bodyAt
  rw [cc0_body_eq_skeleton]; unfold cc0_body_skel
  simp only [dif_neg c1, dif_neg c8, dif_neg cs, dif_pos cn, smemLoad, smemLoadElt, Prog.lift, Prog.bind_op, Prog.bind_ret, Prog.pure_eq_ret]
  iintro ⟨Ht, ⟨Hx, Hw⟩, Ha⟩ Hk
  iapply (step_word c) $$ Ht; iintro Ht
  iapply (wp_assume 𝒱₀ (c : Thread nD τ) none Set.univ (chk i c))
  iapply (acc_step c (X := X) (W := W) (Y := Y)) $$ [Hx Hw Ha]
  · isplitl [Hx]; · iexact Hx
    isplitl [Hw]; · iexact Hw
    iexact Ha
  iintro ⟨Hx, Hw, Ha⟩
  iapply (step_ret c)
  iapply Hk
  isplitl [Ht]; · iexact Ht
  isplitl [Hx Hw]; · isplitl [Hx] <;> iassumption
  iexact Ha

/-- At `(0, 0)`: the barrier, then the accumulator is started. -/
theorem body_first (h0 : (i 0).val = 0) (h1 : (i 1).val = 0) {Kt : PUnit → sProp 𝕄} :
    iprop(ctx m K ∗ tblAt c ∗ staged c xv wv X W ∗ anyAt c accM ∗ T0 c ∗ ow c (O₀ c))
      ⊢ iprop(((tblAt c ∗ staged c xv wv X W ∗ owns (c : Thread nD τ) accM fullShare (k0_pay2 X W) ∗ T1 c ∗ ow c (owedFrom c 0)) -∗ Kt ⟨⟩)
        -∗ wpB c (bodyAt i xv hxv wv hwv) Kt) := by
  have c1 : k0_cond1 i = 1#1 := (cond1_iff i).mpr ⟨h0, h1⟩
  have c8 : ¬ k0_cond8 i = 1#1 := fun h => by have := (cond8_iff i).mp h; omega
  have cs := (start_iff i).mpr h1
  have cn := fun h => (step_iff i).mp h h1
  unfold wpB bodyAt
  rw [cc0_body_eq_skeleton]; unfold cc0_body_skel
  simp only [dif_pos c1, dif_neg c8, dif_pos cs, dif_neg cn, smemLoad, smemLoadElt, semSignalWord, semWaitWord, Prog.lift, Prog.bind_op, Prog.bind_ret, Prog.pure_eq_ret]
  unfold T0 T1 O₀
  iintro ⟨#Hc, Ht, ⟨Hx, Hw⟩, Ha, ⟨⟨S0, S1, S2, S3⟩, Hcr, Hbar, ⟨N0, N1, N2⟩, Hsend, Hs0, Hr⟩, HO⟩ Hk
  iapply (step_word c) $$ Ht; iintro Ht
  iapply (wp_assume 𝒱₀ (c : Thread nD τ) none Set.univ (chk i c))
  iapply (step_signal m K c 0 _ rfl (other_iff c 0) _) $$ [S0 HO]
  · isplitr; · iexact Hc
    isplitl [HO]; · iexact HO
    iexact S0
  iintro HO
  iapply (step_signal m K c 1 _ rfl (other_iff c 1) _) $$ [S1 HO]
  · isplitr; · iexact Hc
    isplitl [HO]; · iexact HO
    iexact S1
  iintro HO
  iapply (step_signal m K c 2 _ rfl (other_iff c 2) _) $$ [S2 HO]
  · isplitr; · iexact Hc
    isplitl [HO]; · iexact HO
    iexact S2
  iintro HO
  iapply (step_signal m K c 3 _ rfl (other_iff c 3) _) $$ [S3 HO]
  · isplitr; · iexact Hc
    isplitl [HO]; · iexact HO
    iexact S3
  iintro HO
  iapply (step_barrier m K c) $$ [Hcr HO Hbar]
  · isplitr; · iexact Hc
    isplitl [Hcr]; · iexact Hcr
    isplitl [HO]; · iexact HO
    iexact Hbar
  iintro ⟨HO, Hbar, P0, P1, P2⟩
  iapply (acc_start c (X := X) (W := W)) $$ [Hx Hw Ha]
  · isplitl [Hx]; · iexact Hx
    isplitl [Hw]; · iexact Hw
    iexact Ha
  iintro ⟨Hx, Hw, Ha⟩
  iapply (step_ret c)
  iapply Hk
  isplitl [Ht]; · iexact Ht
  isplitl [Hx Hw]; · isplitl [Hx] <;> iassumption
  isplitl [Ha]; · iexact Ha
  isplitr [HO]
  · isplitl [Hbar]; · iexact Hbar
    isplitl [P0 P1 P2 N0 N1 N2]
    · isplitl [P0 N0]; · isplitl [P0] <;> iassumption
      isplitl [P1 N1]; · isplitl [P1] <;> iassumption
      isplitl [P2] <;> iassumption
    isplitl [Hsend]; · iexact Hsend
    isplitl [Hs0] <;> iassumption
  iexact HO

/-- At `(j, 7)` with `j < 2`: the accumulator is finished and sent, out of slot `j`. -/
theorem body_send (j : Fin 3) (hj2 : j.val < 2) (h0 : (i 0).val = j.val) (h1 : (i 1).val = 7) {Y : Vec F S2048x1024 .f32}
    (hY : k0_pay4 (k0_pay3 X W Y) = msg m c j.val) {Kt : PUnit → sProp 𝕄} :
    iprop(ctx m K ∗ tblAt c ∗ staged c xv wv X W ∗ owns (c : Thread nD τ) accM fullShare Y
        ∗ anyAt c (sendM (slotS j)) ∗ (peer c j ∗ snd c j) ∗ reached ER (sendCell c (slotS j)) (j.val / 2) ∗ ow c (owedFrom c j.val))
      ⊢ iprop(((tblAt c ∗ staged c xv wv X W ∗ anyAt c accM ∗ cred (tallyAt (sendCell c (slotS j)) () NB) ∗ ow c (owedFrom c (j.val + 1))) -∗ Kt ⟨⟩)
        -∗ wpB c (bodyAt i xv hxv wv hwv) Kt) := by
  have c1 : ¬ k0_cond1 i = 1#1 := fun h => by have := ((cond1_iff i).mp h).2; omega
  have c8 : k0_cond8 i = 1#1 := (cond8_iff i).mpr h1
  have c9 : k0_cond9 i = 1#1 := (cond9_iff i).mpr (by omega)
  have c11 : ¬ k0_cond11 i = 1#1 := fun h => by have := (cond11_iff i).mp h; omega
  have cs := fun h => (show ¬ (i 1).val = 0 by omega) ((start_iff i).mp h)
  have cn := (step_iff i).mpr (by omega)
  have ct := fun h => (show ¬ (i 0).val = 2 by omega) ((third_iff i).mp h)
  unfold wpB bodyAt
  rw [cc0_body_eq_skeleton]; unfold cc0_body_skel
  simp only [dif_neg c1, dif_pos c8, dif_pos c9, dif_neg c11, dif_neg cs, dif_pos cn, dif_neg ct, smemLoad, smemLoadElt, Prog.lift, Prog.bind_op, Prog.bind_ret, Prog.pure_eq_ret]
  iintro ⟨#Hc, Ht, ⟨Hx, Hw⟩, Ha, Hs, Hp, Hr, HO⟩ Hk
  iapply (step_word c) $$ Ht; iintro Ht
  iapply (wp_assume 𝒱₀ (c : Thread nD τ) none Set.univ (chk i c))
  iapply (acc_step c (X := X) (W := W) (Y := Y)) $$ [Hx Hw Ha]
  · isplitl [Hx]; · iexact Hx
    isplitl [Hw]; · iexact Hw
    iexact Ha
  iintro ⟨Hx, Hw, Ha⟩
  iapply (send_tail m K c i j h0 (k0_pay3 X W Y) hY ((dev5_eq i c c8 c9 _).trans (congrArg (dst c) h0))) $$ [Ha Hs Hp Hr HO]
  · isplitr; · iexact Hc
    isplitl [Ha]; · iexact Ha
    isplitl [Hs]; · iexact Hs
    isplitl [Hp]; · iexact Hp
    isplitl [Hr]; · iexact Hr
    iexact HO
  iintro ⟨Ha, Hcr, HO⟩
  iapply (step_ret c)
  iapply Hk
  isplitl [Ht]; · iexact Ht
  isplitl [Hx Hw]; · isplitl [Hx] <;> iassumption
  isplitl [Ha]; · iexact Ha
  isplitl [Hcr] <;> iassumption

/-- At `(2, 7)`: a wait for the first sending slot, which is then used again. -/
theorem body_send2 (h0 : (i 0).val = 2) (h1 : (i 1).val = 7) {Y : Vec F S2048x1024 .f32}
    (hY : k0_pay4 (k0_pay3 X W Y) = msg m c 2) {Kt : PUnit → sProp 𝕄} :
    iprop(ctx m K ∗ tblAt c ∗ staged c xv wv X W ∗ owns (c : Thread nD τ) accM fullShare Y ∗ T3 c ∗ ow c (owedFrom c 2))
      ⊢ iprop(((tblAt c ∗ staged c xv wv X W ∗ anyAt c accM ∗ T4 c ∗ ow c (owedFrom c 3)) -∗ Kt ⟨⟩)
        -∗ wpB c (bodyAt i xv hxv wv hwv) Kt) := by
  have c1 : ¬ k0_cond1 i = 1#1 := fun h => by have := ((cond1_iff i).mp h).2; omega
  have c8 : k0_cond8 i = 1#1 := (cond8_iff i).mpr h1
  have c9 : k0_cond9 i = 1#1 := (cond9_iff i).mpr (by omega)
  have c11 : ¬ k0_cond11 i = 1#1 := fun h => by have := (cond11_iff i).mp h; omega
  have cs := fun h => (show ¬ (i 1).val = 0 by omega) ((start_iff i).mp h)
  have cn := (step_iff i).mpr (by omega)
  have ct := (third_iff i).mpr h0
  unfold wpB bodyAt
  rw [cc0_body_eq_skeleton]; unfold cc0_body_skel
  simp only [dif_neg c1, dif_pos c8, dif_pos c9, dif_neg c11, dif_neg cs, dif_pos cn, dif_pos ct, smemLoad, smemLoadElt, Prog.lift, Prog.bind_op, Prog.bind_ret, Prog.pure_eq_ret]
  unfold T3 T4
  iintro ⟨#Hc, Ht, ⟨Hx, Hw⟩, Ha, ⟨Hbar, Hp, ⟨C0, C1⟩, Hs0, Hr⟩, HO⟩ Hk
  iapply (step_word c) $$ Ht; iintro Ht
  iapply (wp_assume 𝒱₀ (c : Thread nD τ) none Set.univ (chk i c))
  iapply (acc_step c (X := X) (W := W) (Y := Y)) $$ [Hx Hw Ha]
  · isplitl [Hx]; · iexact Hx
    isplitl [Hw]; · iexact Hw
    iexact Ha
  iintro ⟨Hx, Hw, Ha⟩
  iapply (step_wait_send m K c 0 0 2 (duties_send0 m c 0 (by decide)) (sendSem_eq 0 rfl _) (sendV_eq 0 rfl _ _)) $$ [C0 HO Hs0]
  · isplitr; · iexact Hc
    isplitl [C0]; · iexact C0
    isplitl [HO]; · iexact HO
    iexact Hs0
  iintro ⟨HO, Hs0, Hslot⟩
  unfold atp
  icases Hs0 with ⟨Hs0, #Hr1⟩
  iapply (send_tail m K c i 2 h0 (k0_pay3 X W Y) hY ((dev5_eq i c c8 c9 _).trans (congrArg (dst c) h0))) $$ [Ha Hslot Hp HO]
  · isplitr; · iexact Hc
    isplitl [Ha]; · iexact Ha
    isplitl [Hslot]; · iexact Hslot
    isplitl [Hp]; · iexact Hp
    isplitr; · iexact Hr1
    iexact HO
  iintro ⟨Ha, Hcr, HO⟩
  iapply (step_ret c)
  iapply Hk
  isplitl [Ht]; · iexact Ht
  isplitl [Hx Hw]; · isplitl [Hx] <;> iassumption
  isplitl [Ha]; · iexact Ha
  isplitr [HO]
  · isplitl [Hbar]; · iexact Hbar
    isplitl [Hcr C1]
    · isplitl [Hcr]; · iexact Hcr
      iexact C1
    isplitl [Hs0]
    · isplitl [Hs0]; · iexact Hs0
      iexact Hr1
    iexact Hr
  iexact HO

end

end Cert.KernelIdeal.Run

end
-- ==== Proof.Last.lean ====
/-
  The kernel body at the last grid point `(3, 7)`: the accumulator is finished, clipped and copied out as the device's own
  block of rows; each of the three messages is awaited, widened into the accumulator and copied out; the two sending slots
  are awaited; and then every semaphore's counter is back at zero.
-/
module

public import proofs.«01_k».proof.Proof.Cases

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ)

set_option maxRecDepth 4000

/-! ## Closing a cell -/

/-- A cell of the protocol with no round left gives its counter back, at zero. -/
theorem close_cell (p : Dev nD × Fin 7) (r : ℕ) (h : ∀ r', r ≤ r' → (Rd (F := F) m).duties (cellAt p) r' = ∅) :
    iprop(ctx m K ∗ atPos ER (cellAt p) r ∅ 0 ∗ reached ER (cellAt p) r) ⊢ iprop(|={Set.univ}=> semVal (cellAt p) 0) := by
  iintro ⟨#Hc, Hat, -⟩
  iapply (Rounds.cell_close ER (Rd m) (Set.mem_univ (K p)) id h) $$ [Hat]
  isplitr; · iapply (ctx_inv m K p) $$ Hc
  iexact Hat

section

variable (c : Dev nD)

/-! ## One block out -/

theorem outBlk_zero : outBlk m c 0 = k0_pay6 (accS m c 31) := if_pos rfl
theorem outBlk_succ (j : Fin 3) : outBlk m c (j.val + 1) = k0_pay5 (msg m (src c (j.val + 1)) j.val) := if_neg (Nat.succ_ne_zero _)

/-- The message of step `j` awaited, widened into the accumulator, and copied out. -/
theorem recv_out (j : Fin 3) (pay : Vec F S2048x1024 .bf16 → Vec F S2048x1024 .f32) (hpay : pay = k0_pay5)
    {sR : DmaSem sig} {sv dv : Memref sig .tc .vmem S2048x1024 .bf16} (hsR : sR = recvS j) (hv : dv = stageM j)
    {off : Fin 2 → ℕ} (hoff : off = ![2048 * j.val, 0])
    {ov ov' : Memref sig .tc .hbm S2048x1024 .f32} {sC sC' : DmaSem sig} (hov : ov = outM (src c (j.val + 1))) (hov' : ov' = outM (src c (j.val + 1)))
    (hsC : sC = copyS) (hsC' : sC' = copyS) {h1 h2 i1 l1 i2 l2 i3 x3 m3 e1 e2 e3 e4 e5}
    {k : PUnit → Prog (TpuEff nD τ sig (Elt F) Λ₀ .tc) PUnit} {Kt : PUnit → sProp 𝕄} :
    iprop(ctx m K ∗ cred (tallyAt (recvCell c j) () NB) ∗ ow c 0 ∗ atp c (.dma (recvS j)) 0 ∗ anyAt c accM
        ∗ anyAt c (outM (src c (j.val + 1))) ∗ dutyTok ER (copyCell c) (j.val + 1) 0 ∗ atp c (.dma copyS) (j.val + 1))
      ⊢ iprop(((ow c 0 ∗ atp c (.dma (recvS j)) 1 ∗ anyAt c (stageM j) ∗ anyAt c accM ∗ atp c (.dma copyS) (j.val + 1 + 1)
          ∗ owns (c : Thread nD τ) (outM (src c (j.val + 1))) fullShare (outBlk m c (j.val + 1))) -∗ wpB c (k ⟨⟩) Kt)
        -∗ wpB c (.op (.waitDma2 sR sv dv h1 h2) fun _ =>
          .op (.load (Memref.whole cc0_scratch2) (Rect.unit (s := S6144x1024) off S2048x1024.size i1).toLoadRect l1) fun v =>
          .op (.load accM (Rect.unit (s := S2048x1024) ![0, 0] S2048x1024.size i2).toLoadRect l2) fun _ =>
          .op (.store accM (Rect.unit (s := S2048x1024) ![0, 0] S2048x1024.size i3) (pay v) Finset.univ x3 m3) fun _ =>
          .op (.enqueueDma accM (.here ov) (.dma sC) e1 e2 e3) fun _ => .op (.waitDma2 sC' accM ov' e4 e5) k) Kt) := by
  subst hpay
  iintro ⟨#Hc, Hcr, HO, Hat, Ha, Hout, Ht, Hcp⟩ Hk
  iapply (step_wait_recv m K c j hsR hv) $$ [Hcr HO Hat]
  · isplitr; · iexact Hc
    isplitl [Hcr]; · iexact Hcr
    isplitl [HO]; · iexact HO
    iexact Hat
  iintro ⟨HO, Hat, Hst⟩
  iapply (step_load_stage c j hoff) $$ Hst; iintro Hst
  ihave Ha' := (show (anyAt c accM : sProp 𝕄) ⊢ iprop(∃ Y, owns (c : Thread nD τ) accM fullShare Y) from .rfl) $$ Ha
  icases Ha' with ⟨%Y, Ha⟩
  iapply (step_load_whole c (v := accM) zero2) $$ Ha; iintro Ha
  ihave Ha := (anyAt_intro c accM Y) $$ Ha
  iapply (step_store_whole c (v := accM) zero2) $$ Ha; iintro Ha
  iapply (step_copy m K c (j.val + 1) (by omega) hov hov' hsC hsC') $$ [Ha Hout HO Ht Hcp]
  · isplitr; · iexact Hc
    isplitl [Ha]; · rw [outBlk_succ]; iexact Ha
    isplitl [Hout]; · iexact Hout
    isplitl [HO]; · iexact HO
    isplitl [Ht]; · iexact Ht
    iexact Hcp
  iintro ⟨HO, Hcp, Hout, Ha⟩
  iapply Hk
  isplitl [HO]; · iexact HO
  isplitl [Hat]; · iexact Hat
  isplitl [Hst]; · iapply (anyAt_intro c (stageM j) _) $$ Hst
  isplitl [Ha]; · iexact Ha
  isplitl [Hcp]; · iexact Hcp
  iexact Hout

variable (i : grid0.Coords) {xv : Memref sig .tc .vmem S2048x1024 .f32} {hxv : xv.IsWhole} {wv : Memref sig .tc .vmem S1024x1024 .f32} {hwv : wv.IsWhole}
  {X : Vec F S2048x1024 .f32} {W : Vec F S1024x1024 .f32}

set_option maxHeartbeats 1600000

/-- At `(3, 7)`: the four blocks of the result, and every counter back at zero. -/
theorem body_last (h0 : (i 0).val = 3) (h1 : (i 1).val = 7) {Y : Vec F S2048x1024 .f32}
    (hY : k0_pay3 X W Y = accS m c 31) {Kt : PUnit → sProp 𝕄} :
    iprop(ctx m K ∗ tblAt c ∗ staged c xv wv X W ∗ owns (c : Thread nD τ) accM fullShare Y ∗ T4 c ∗ ow c 0)
      ⊢ iprop(((tblAt c ∗ staged c xv wv X W ∗ anyAt c accM ∗ T5 m c ∗ ow c 0) -∗ Kt ⟨⟩)
        -∗ wpB c (bodyAt i xv hxv wv hwv) Kt) := by
  have c1 : ¬ k0_cond1 i = 1#1 := fun h => by have := ((cond1_iff i).mp h).2; omega
  have c8 : k0_cond8 i = 1#1 := (cond8_iff i).mpr h1
  have c9 : ¬ k0_cond9 i = 1#1 := fun h => by have := (cond9_iff i).mp h; omega
  have c11 : k0_cond11 i = 1#1 := (cond11_iff i).mpr h0
  have cs := fun h => (show ¬ (i 1).val = 0 by omega) ((start_iff i).mp h)
  have cn := (step_iff i).mpr (by omega)
  unfold wpB bodyAt
  rw [cc0_body_eq_skeleton]; unfold cc0_body_skel
  simp only [dif_neg c1, dif_pos c8, dif_neg c9, dif_pos c11, dif_neg cs, dif_pos cn, k0_part1_eq_skeleton, k0_part2_eq_skeleton, smemLoad, smemLoadElt, Prog.lift, Prog.bind_op, Prog.bind_ret, Prog.pure_eq_ret]
  unfold k0_part1_skel k0_part2_skel
  simp only [Prog.lift, Prog.bind_op, Prog.bind_ret, Prog.pure_eq_ret]
  unfold T4 rest
  iintro ⟨#Hc, Ht, ⟨Hx, Hw⟩, Ha, ⟨Hbar, ⟨C0, C1⟩, Hs0, ⟨R0, R1, R2⟩, Hs1, ⟨A0, A1, A2⟩, Hcp, ⟨D0, D1, D2, D3⟩, ⟨O0, O1, O2, O3⟩⟩, HO⟩ Hk
  iapply (step_word c) $$ Ht; iintro Ht
  iapply (wp_assume 𝒱₀ (c : Thread nD τ) none Set.univ (chk i c))
  iapply (acc_step c (X := X) (W := W) (Y := Y)) $$ [Hx Hw Ha]
  · isplitl [Hx]; · iexact Hx
    isplitl [Hw]; · iexact Hw
    iexact Ha
  iintro ⟨Hx, Hw, Ha⟩
  rw [hY]
  iapply (step_load_whole c (v := accM) zero2) $$ Ha; iintro Ha
  iapply (step_load_whole c (v := accM) zero2) $$ Ha; iintro Ha
  ihave Ha := (anyAt_intro c accM _) $$ Ha
  iapply (step_store_whole c (v := accM) zero2) $$ Ha; iintro Ha
  iapply (step_copy m K c 0 (by decide) (outV_eq (src c 0) (off6_eq c) _ _) (outV_eq (src c 0) (off6_eq c) _ _) rfl rfl) $$ [Ha O0 HO D0 Hcp]
  · isplitr; · iexact Hc
    isplitl [Ha]; · rw [outBlk_zero]; iexact Ha
    isplitl [O0]; · iexact O0
    isplitl [HO]; · iexact HO
    isplitl [D0]; · iexact D0
    iexact Hcp
  iintro ⟨HO, Hcp, O0, Ha⟩
  iapply (recv_out m K c 0 k0_pay7 rfl (recvSem_eq 0 rfl _) (stageV_eq 0 rfl _ _) rfl (outV_eq (src c 1) (off7_eq c 0) _ _) (outV_eq (src c 1) (off7_eq c 0) _ _) rfl rfl) $$ [R0 HO A0 Ha O1 D1 Hcp]
  · isplitr; · iexact Hc
    isplitl [R0]; · iexact R0
    isplitl [HO]; · iexact HO
    isplitl [A0]; · iexact A0
    isplitl [Ha]; · iexact Ha
    isplitl [O1]; · iexact O1
    isplitl [D1]; · iexact D1
    iexact Hcp
  iintro ⟨HO, A0, G0, Ha, Hcp, O1⟩
  iapply (recv_out m K c 1 k0_pay8 rfl (recvSem_eq 1 rfl _) (stageV_eq 1 rfl _ _) rfl (outV_eq (src c 2) (off7_eq c 1) _ _) (outV_eq (src c 2) (off7_eq c 1) _ _) rfl rfl) $$ [R1 HO A1 Ha O2 D2 Hcp]
  · isplitr; · iexact Hc
    isplitl [R1]; · iexact R1
    isplitl [HO]; · iexact HO
    isplitl [A1]; · iexact A1
    isplitl [Ha]; · iexact Ha
    isplitl [O2]; · iexact O2
    isplitl [D2]; · iexact D2
    iexact Hcp
  iintro ⟨HO, A1, G1, Ha, Hcp, O2⟩
  iapply (recv_out m K c 2 k0_pay5 rfl (recvSem_eq 2 rfl _) (stageV_eq 2 rfl _ _) rfl (outV_eq (src c 3) (off7_eq c 2) _ _) (outV_eq (src c 3) (off7_eq c 2) _ _) rfl rfl) $$ [R2 HO A2 Ha O3 D3 Hcp]
  · isplitr; · iexact Hc
    isplitl [R2]; · iexact R2
    isplitl [HO]; · iexact HO
    isplitl [A2]; · iexact A2
    isplitl [Ha]; · iexact Ha
    isplitl [O3]; · iexact O3
    isplitl [D3]; · iexact D3
    iexact Hcp
  iintro ⟨HO, A2, G2, Ha, Hcp, O3⟩
  iapply (step_wait_send m K c 1 0 3 (duties_send1 m c) (sendSem_eq 1 rfl _) (sendV_eq 1 rfl _ _)) $$ [C1 HO Hs1]
  · isplitr; · iexact Hc
    isplitl [C1]; · iexact C1
    isplitl [HO]; · iexact HO
    iexact Hs1
  iintro ⟨HO, Hs1, B1⟩
  iapply (step_wait_send m K c 0 1 3 (duties_send0 m c 1 (by decide)) (sendSem_eq 0 rfl _) (sendV_eq 0 rfl _ _)) $$ [C0 HO Hs0]
  · isplitr; · iexact Hc
    isplitl [C0]; · iexact C0
    isplitl [HO]; · iexact HO
    iexact Hs0
  iintro ⟨HO, Hs0, B0⟩
  unfold wpB
  rw [wp_ret]
  unfold atp
  imod (close_cell m K (c, 0) 1 (duties_bar_later m c)) $$ [Hbar] with Hbar
  · isplitr; · iexact Hc
    iexact Hbar
  imod (close_cell m K (c, 1) 2 (duties_dma_later m c (sendS 0) 2 (by decide))) $$ [Hs0] with Hs0
  · isplitr; · iexact Hc
    iexact Hs0
  imod (close_cell m K (c, 2) 1 (duties_dma_later m c (sendS 1) 1 (by decide))) $$ [Hs1] with Hs1
  · isplitr; · iexact Hc
    iexact Hs1
  imod (close_cell m K (c, 3) 1 (duties_dma_later m c (recvS 0) 1 (by decide))) $$ [A0] with A0
  · isplitr; · iexact Hc
    iexact A0
  imod (close_cell m K (c, 4) 1 (duties_dma_later m c (recvS 1) 1 (by decide))) $$ [A1] with A1
  · isplitr; · iexact Hc
    iexact A1
  imod (close_cell m K (c, 5) 1 (duties_dma_later m c (recvS 2) 1 (by decide))) $$ [A2] with A2
  · isplitr; · iexact Hc
    iexact A2
  imod (close_cell m K (c, 6) 4 (duties_dma_later m c copyS 4 (by decide))) $$ [Hcp] with Hcp
  · isplitr; · iexact Hc
    iexact Hcp
  imodintro
  iapply Hk
  isplitl [Ht]; · iexact Ht
  isplitl [Hx Hw]; · isplitl [Hx] <;> iassumption
  isplitl [Ha]; · iexact Ha
  isplitr [HO]
  · unfold T5
    isplitl [Hbar]; · iexact Hbar
    isplitl [Hs0 Hs1 A0 A1 A2 Hcp]
    · isplitl [Hs0]; · iexact Hs0
      isplitl [Hs1]; · iexact Hs1
      isplitl [A0]; · iexact A0
      isplitl [A1]; · iexact A1
      isplitl [A2]; · iexact A2
      iexact Hcp
    isplitl [G0 G1 G2]
    · isplitl [G0]; · iexact G0
      isplitl [G1]; · iexact G1
      iexact G2
    isplitl [B0 B1]
    · isplitl [B0]; · iexact B0
      iexact B1
    isplitl [O0]; · iexact O0
    isplitl [O1]; · iexact O1
    isplitl [O2]; · iexact O2
    iexact O3
  iexact HO

end

end Cert.KernelIdeal.Run

end
-- ==== Proof.Points.lean ====
/-
  The body at every grid point, in one statement. The points are numbered `8 j + k`. Before point `n` device `c` holds
  `Inv c n` and owes `Ow c n`; the body at point `n` takes these, and the two staged blocks, to those of `n + 1`.
-/
module

public import proofs.«01_k».proof.Proof.Last

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 4000

/-- What device `c` holds of the protocol before point `n`: it changes at point 0 and at the last point of each row. -/
def St (c : Dev nD) (n : ℕ) : sProp 𝕄 :=
  if n = 0 then T0 c else if n < 8 then T1 c else if n < 16 then T2 c else if n < 24 then T3 c else if n < 32 then T4 c else T5 m c
/-- What it owes before point `n`. -/
def Ow (c : Dev nD) (n : ℕ) : CellTallies nD τ sig Unit := if n = 0 then O₀ c else owedFrom c (n / 8)
/-- The accumulator before point `n`: within a row, the sum so far; between rows anything. -/
def Acc (c : Dev nD) (n : ℕ) : sProp 𝕄 :=
  if n % 8 = 0 then anyAt c accM else owns (c : Thread nD τ) accM fullShare (accS m c (n - 1))
/-- The invariant before point `n`. -/
def Inv (c : Dev nD) (n : ℕ) : sProp 𝕄 := iprop(tblAt c ∗ Acc m c n ∗ (∃ K, ctx m K) ∗ St m c n)

theorem Acc_zero (c : Dev nD) {n : ℕ} (h : n % 8 = 0) : Acc m c n = anyAt c accM := if_pos h
theorem Acc_pos (c : Dev nD) {n : ℕ} (h : n % 8 ≠ 0) : Acc m c n = owns (c : Thread nD τ) accM fullShare (accS m c (n - 1)) := if_neg h

theorem St_mid (c : Dev nD) {n : ℕ} (h : n ≠ 0) (h7 : (n + 1) % 8 ≠ 0) : St m c (n + 1) = St m c n := by
  unfold St
  rw [if_neg h, if_neg (Nat.succ_ne_zero n), if_congr (show n + 1 < 8 ↔ n < 8 by omega) rfl rfl, if_congr (show n + 1 < 16 ↔ n < 16 by omega) rfl rfl,
    if_congr (show n + 1 < 24 ↔ n < 24 by omega) rfl rfl, if_congr (show n + 1 < 32 ↔ n < 32 by omega) rfl rfl]
theorem Ow_mid (c : Dev nD) {n : ℕ} (h : n ≠ 0) (h7 : (n + 1) % 8 ≠ 0) : Ow c (n + 1) = Ow c n := by
  unfold Ow
  rw [if_neg h, if_neg (Nat.succ_ne_zero n), show (n + 1) / 8 = n / 8 by omega]

section

variable (c : Dev nD) (n : ℕ) (i : grid0.Coords) {xv : Memref sig .tc .vmem S2048x1024 .f32} {hxv : xv.IsWhole} {wv : Memref sig .tc .vmem S1024x1024 .f32} {hwv : wv.IsWhole}

/-- What the body at point `n` is to do: from the state before `n` to the state before `n + 1`. -/
abbrev Goal (xv : Memref sig .tc .vmem S2048x1024 .f32) (hxv : xv.IsWhole) (wv : Memref sig .tc .vmem S1024x1024 .f32) (hwv : wv.IsWhole) (Kt : PUnit → sProp 𝕄) : Prop :=
  iprop(Inv m c n ∗ staged c xv wv (xBlk m c n) (wBlk m c n) ∗ ow c (Ow c n))
    ⊢ iprop(((Inv m c (n + 1) ∗ staged c xv wv (xBlk m c n) (wBlk m c n) ∗ ow c (Ow c (n + 1))) -∗ Kt ⟨⟩) -∗ wpB c (bodyAt i xv hxv wv hwv) Kt)

theorem goal_first (h0 : (i 0).val = 0) (h1 : (i 1).val = 0) {Kt : PUnit → sProp 𝕄} : Goal m c 0 i xv hxv wv hwv Kt := by
  have e1 : Acc m c (0 + 1) = owns (c : Thread nD τ) accM fullShare (k0_pay2 (xBlk m c 0) (wBlk m c 0)) := Acc_pos m c (by decide)
  have e2 : St m c (0 + 1) = T1 c := rfl
  have e3 : Ow c (0 + 1) = owedFrom c 0 := rfl
  have e4 : Acc m c 0 = anyAt c accM := rfl
  have e5 : St m c 0 = T0 c := rfl
  have e6 : Ow c 0 = O₀ c := rfl
  unfold Goal Inv
  rw [e1, e2, e3, e4, e5, e6]
  iintro ⟨⟨Ht, Ha, ⟨%K, #Hc⟩, HT⟩, Hs, HO⟩ Hk
  iapply (body_first m K c i h0 h1) $$ [Ht Ha HT Hs HO]
  · isplitr; · iexact Hc
    isplitl [Ht]; · iexact Ht
    isplitl [Hs]; · iexact Hs
    isplitl [Ha]; · iexact Ha
    isplitl [HT] <;> iassumption
  iintro ⟨Ht, Hs, Ha, HT, HO⟩
  iapply Hk
  isplitl [Ht Ha HT]
  · isplitl [Ht]; · iexact Ht
    isplitl [Ha]; · iexact Ha
    isplitr; · iexists K; iexact Hc
    iexact HT
  isplitl [Hs] <;> iassumption

theorem goal_start (hn : n ≠ 0) (h8 : n % 8 = 0) (h0 : (i 0).val ≠ 0) (h1 : (i 1).val = 0) {Kt : PUnit → sProp 𝕄} : Goal m c n i xv hxv wv hwv Kt := by
  have e1 : Acc m c (n + 1) = owns (c : Thread nD τ) accM fullShare (k0_pay2 (xBlk m c n) (wBlk m c n)) := by
    rw [Acc_pos m c (by omega), Nat.add_sub_cancel, accS_start m c n h8]
  unfold Goal Inv
  rw [e1, St_mid m c hn (by omega), Ow_mid c hn (by omega), Acc_zero m c h8]
  iintro ⟨⟨Ht, Ha, Hc, HT⟩, Hs, HO⟩ Hk
  iapply (body_start c i h0 h1) $$ [Ht Ha Hs]
  · isplitl [Ht]; · iexact Ht
    isplitl [Hs] <;> iassumption
  iintro ⟨Ht, Hs, Ha⟩
  iapply Hk
  isplitl [Ht Ha HT Hc]
  · isplitl [Ht]; · iexact Ht
    isplitl [Ha]; · iexact Ha
    isplitl [Hc] <;> iassumption
  isplitl [Hs] <;> iassumption

theorem accS_pos (h : n % 8 ≠ 0) : accS m c n = k0_pay3 (xBlk m c n) (wBlk m c n) (accS m c (n - 1)) := by
  obtain ⟨k, rfl⟩ : ∃ k, n = k + 1 := ⟨n - 1, by omega⟩
  exact accS_step m c k h

theorem goal_mid (h8 : n % 8 ≠ 0) (h7 : n % 8 ≠ 7) (h1 : (i 1).val ≠ 0) (h17 : (i 1).val ≠ 7) {Kt : PUnit → sProp 𝕄} : Goal m c n i xv hxv wv hwv Kt := by
  have e1 : Acc m c (n + 1) = owns (c : Thread nD τ) accM fullShare (k0_pay3 (xBlk m c n) (wBlk m c n) (accS m c (n - 1))) := by
    rw [Acc_pos m c (by omega), Nat.add_sub_cancel, accS_pos m c n h8]
  have hn : n ≠ 0 := by omega
  unfold Goal Inv
  rw [e1, St_mid m c hn (by omega), Ow_mid c hn (by omega), Acc_pos m c h8]
  iintro ⟨⟨Ht, Ha, Hc, HT⟩, Hs, HO⟩ Hk
  iapply (body_mid c i h1 h17) $$ [Ht Ha Hs]
  · isplitl [Ht]; · iexact Ht
    isplitl [Hs] <;> iassumption
  iintro ⟨Ht, Hs, Ha⟩
  iapply Hk
  isplitl [Ht Ha HT Hc]
  · isplitl [Ht]; · iexact Ht
    isplitl [Ha]; · iexact Ha
    isplitl [Hc] <;> iassumption
  isplitl [Hs] <;> iassumption

theorem goal_send0 (h0 : (i 0).val = 0) (h1 : (i 1).val = 7) {Kt : PUnit → sProp 𝕄} : Goal m c 7 i xv hxv wv hwv Kt := by
  have e1 : Acc m c (7 + 1) = anyAt c accM := Acc_zero m c (by decide)
  have e2 : St m c (7 + 1) = T2 c := rfl
  have e3 : Ow c (7 + 1) = owedFrom c 1 := rfl
  have e4 : Acc m c 7 = owns (c : Thread nD τ) accM fullShare (accS m c (7 - 1)) := Acc_pos m c (by decide)
  have e5 : St m c 7 = T1 c := rfl
  have e6 : Ow c 7 = owedFrom c 0 := rfl
  have hY : k0_pay4 (k0_pay3 (xBlk m c 7) (wBlk m c 7) (accS m c (7 - 1))) = msg m c 0 := by
    rw [← accS_pos m c 7 (by decide)]; rfl
  unfold Goal Inv
  rw [e1, e2, e3, e4, e5, e6]
  unfold T1 T2 atp
  iintro ⟨⟨Ht, Ha, ⟨%K, #Hc⟩, HT⟩, Hs, HO⟩ Hk
  icases HT with ⟨Hb, ⟨P0, P1, P2⟩, ⟨S0, S1⟩, ⟨Hp, #Hr⟩, Hrest⟩
  iapply (body_send m K c i 0 (by decide) h0 h1 hY) $$ [Ht Ha S0 P0 Hs HO]
  · isplitr; · iexact Hc
    isplitl [Ht]; · iexact Ht
    isplitl [Hs]; · iexact Hs
    isplitl [Ha]; · iexact Ha
    isplitl [S0]; · iexact S0
    isplitl [P0]; · iexact P0
    isplitr; · iexact Hr
    iexact HO
  iintro ⟨Ht, Hs, Ha, HC, HO⟩
  iapply Hk
  isplitl [Ht Ha Hb P1 P2 S1 Hp Hrest HC]
  · isplitl [Ht]; · iexact Ht
    isplitl [Ha]; · iexact Ha
    isplitr; · iexists K; iexact Hc
    isplitl [Hb]; · iexact Hb
    isplitl [P1 P2]; · isplitl [P1] <;> iassumption
    isplitl [HC S1]
    · isplitl [HC]; · iexact HC
      iexact S1
    isplitl [Hp]
    · isplitl [Hp]; · iexact Hp
      iexact Hr
    iexact Hrest
  isplitl [Hs]; · iexact Hs
  iexact HO

theorem goal_send1 (h0 : (i 0).val = 1) (h1 : (i 1).val = 7) {Kt : PUnit → sProp 𝕄} : Goal m c 15 i xv hxv wv hwv Kt := by
  have e1 : Acc m c (15 + 1) = anyAt c accM := Acc_zero m c (by decide)
  have e2 : St m c (15 + 1) = T3 c := rfl
  have e3 : Ow c (15 + 1) = owedFrom c 2 := rfl
  have e4 : Acc m c 15 = owns (c : Thread nD τ) accM fullShare (accS m c (15 - 1)) := Acc_pos m c (by decide)
  have e5 : St m c 15 = T2 c := rfl
  have e6 : Ow c 15 = owedFrom c 1 := rfl
  have hY : k0_pay4 (k0_pay3 (xBlk m c 15) (wBlk m c 15) (accS m c (15 - 1))) = msg m c 1 := by
    rw [← accS_pos m c 15 (by decide)]; rfl
  unfold Goal Inv
  rw [e1, e2, e3, e4, e5, e6]
  unfold T2 T3 rest atp
  iintro ⟨⟨Ht, Ha, ⟨%K, #Hc⟩, HT⟩, Hs, HO⟩ Hk
  icases HT with ⟨Hb, ⟨P1, P2⟩, ⟨C0, S1⟩, Hp, Hcr, ⟨Hp1, #Hr⟩, Hrest⟩
  iapply (body_send m K c i 1 (by decide) h0 h1 hY) $$ [Ht Ha S1 P1 Hs HO]
  · isplitr; · iexact Hc
    isplitl [Ht]; · iexact Ht
    isplitl [Hs]; · iexact Hs
    isplitl [Ha]; · iexact Ha
    isplitl [S1]; · iexact S1
    isplitl [P1]; · iexact P1
    isplitr; · iexact Hr
    iexact HO
  iintro ⟨Ht, Hs, Ha, HC, HO⟩
  iapply Hk
  isplitl [Ht Ha Hb P2 C0 Hp Hp1 Hrest Hcr HC]
  · isplitl [Ht]; · iexact Ht
    isplitl [Ha]; · iexact Ha
    isplitr; · iexists K; iexact Hc
    isplitl [Hb]; · iexact Hb
    isplitl [P2]; · iexact P2
    isplitl [HC C0]
    · isplitl [C0]; · iexact C0
      iexact HC
    isplitl [Hp]; · iexact Hp
    isplitl [Hcr]; · iexact Hcr
    isplitl [Hp1]
    · isplitl [Hp1]; · iexact Hp1
      iexact Hr
    iexact Hrest
  isplitl [Hs]; · iexact Hs
  iexact HO

theorem goal_send2 (h0 : (i 0).val = 2) (h1 : (i 1).val = 7) {Kt : PUnit → sProp 𝕄} : Goal m c 23 i xv hxv wv hwv Kt := by
  have e1 : Acc m c (23 + 1) = anyAt c accM := Acc_zero m c (by decide)
  have e2 : St m c (23 + 1) = T4 c := rfl
  have e3 : Ow c (23 + 1) = owedFrom c 3 := rfl
  have e4 : Acc m c 23 = owns (c : Thread nD τ) accM fullShare (accS m c (23 - 1)) := Acc_pos m c (by decide)
  have e5 : St m c 23 = T3 c := rfl
  have e6 : Ow c 23 = owedFrom c 2 := rfl
  have hY : k0_pay4 (k0_pay3 (xBlk m c 23) (wBlk m c 23) (accS m c (23 - 1))) = msg m c 2 := by
    rw [← accS_pos m c 23 (by decide)]; rfl
  unfold Goal Inv
  rw [e1, e2, e3, e4, e5, e6]
  iintro ⟨⟨Ht, Ha, ⟨%K, #Hc⟩, HT⟩, Hs, HO⟩ Hk
  iapply (body_send2 m K c i h0 h1 hY) $$ [Ht Ha HT Hs HO]
  · isplitr; · iexact Hc
    isplitl [Ht]; · iexact Ht
    isplitl [Hs]; · iexact Hs
    isplitl [Ha]; · iexact Ha
    isplitl [HT] <;> iassumption
  iintro ⟨Ht, Hs, Ha, HT, HO⟩
  iapply Hk
  isplitl [Ht Ha HT]
  · isplitl [Ht]; · iexact Ht
    isplitl [Ha]; · iexact Ha
    isplitr; · iexists K; iexact Hc
    iexact HT
  isplitl [Hs] <;> iassumption

theorem goal_last (h0 : (i 0).val = 3) (h1 : (i 1).val = 7) {Kt : PUnit → sProp 𝕄} : Goal m c 31 i xv hxv wv hwv Kt := by
  have e1 : Acc m c (31 + 1) = anyAt c accM := Acc_zero m c (by decide)
  have e2 : St m c (31 + 1) = T5 m c := rfl
  have e3 : Ow c (31 + 1) = 0 := rfl
  have e4 : Acc m c 31 = owns (c : Thread nD τ) accM fullShare (accS m c (31 - 1)) := Acc_pos m c (by decide)
  have e5 : St m c 31 = T4 c := rfl
  have e6 : Ow c 31 = 0 := rfl
  have hY : k0_pay3 (xBlk m c 31) (wBlk m c 31) (accS m c (31 - 1)) = accS m c 31 :=
    (accS_pos m c 31 (by decide)).symm
  unfold Goal Inv
  rw [e1, e2, e3, e4, e5, e6]
  iintro ⟨⟨Ht, Ha, ⟨%K, #Hc⟩, HT⟩, Hs, HO⟩ Hk
  iapply (body_last m K c i h0 h1 hY) $$ [Ht Ha HT Hs HO]
  · isplitr; · iexact Hc
    isplitl [Ht]; · iexact Ht
    isplitl [Hs]; · iexact Hs
    isplitl [Ha]; · iexact Ha
    isplitl [HT] <;> iassumption
  iintro ⟨Ht, Hs, Ha, HT, HO⟩
  iapply Hk
  isplitl [Ht Ha HT]
  · isplitl [Ht]; · iexact Ht
    isplitl [Ha]; · iexact Ha
    isplitr; · iexists K; iexact Hc
    iexact HT
  isplitl [Hs] <;> iassumption

/-- The body at point `n`. -/
theorem body_point (hn : n < 32) (h0 : (i 0).val = n / 8) (h1 : (i 1).val = n % 8) {Kt : PUnit → sProp 𝕄} : Goal m c n i xv hxv wv hwv Kt := by
  by_cases a : n % 8 = 0
  · by_cases b : n = 0
    · subst b; exact goal_first m c i h0 h1
    · exact goal_start m c n i b a (by omega) (by omega)
  · by_cases b : n % 8 = 7
    · obtain h | h | h | h : n = 7 ∨ n = 15 ∨ n = 23 ∨ n = 31 := by omega
      all_goals subst h
      · exact goal_send0 m c i h0 h1
      · exact goal_send1 m c i h0 h1
      · exact goal_send2 m c i h0 h1
      · exact goal_last m c i h0 h1
    · exact goal_mid m c n i a b (by omega) (by omega)

end

end Cert.KernelIdeal.Run

end
-- ==== Proof.Region.lean ====
/-
  The kernel's pipeline as data: the two arrays it stages, what the staging buffers hold, the invariant and what is owed
  before each point; and the body's obligation at every point.
-/
module

public import proofs.«01_k».proof.Proof.Points

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

set_option maxRecDepth 4000

/-- Each device's table. -/
abbrev adms (c : Dev nD) : (p : Fin 1) → (pcfgs (F := F) p).Adm := fun _ => adm c

/-- The data of device `c`'s pipeline. -/
def dat (c : Dev nD) : Dat τ (Elt F) Unit ℕ UU ℕ (cfg0 (adm (F := F) c)) c where
  A := fun | 0 => V1 m c main_arg0 | 1 => V1 m c main_arg1 | ⟨_ + 2, h⟩ => absurd h (Nat.not_lt.2 (Nat.le_add_left _ _))
  after := fun | 0 => fun t => xBlk m c t.val | 1 => fun t => wBlk m c t.val | ⟨_ + 2, h⟩ => absurd h (Nat.not_lt.2 (Nat.le_add_left _ _))
  Φ t := Inv m c t.val
  q _ := fullShare
  owed t := Ow c t.val

abbrev dats : (p : Fin 1) → (c : Dev nD) → Dat τ (Elt F) Unit ℕ UU ℕ (Pipeline.pinD (pcfgs (F := F)) adms c p) c := fun _ c => dat m c

theorem pt_val (t : Fin grid0.N) : pt t.val = t :=
  Fin.ext (Nat.mod_eq_of_lt (lt_of_lt_of_eq t.isLt N_0))

theorem coords_val : ∀ t : Fin grid0.N, (grid0.coords t 0).val = t.val / 8 ∧ (grid0.coords t 1).val = t.val % 8 := by decide +kernel

theorem before_x (c : Dev nD) (t : Fin grid0.N) (d) : (dat m c).before 0 t d = xBlk m c t.val := by
  refine ((dat m c).before_in_eq_fetched 0 rfl (fun _ => rfl) (fun _ _ _ => rfl) (fun t => ?_) t d).trans ?_
  · show xBlk m c t.val = ((win0 (adm (F := F) c) 0).blk t).view.read (Elt F) (V1 m c main_arg0)
    unfold xBlk; rw [pt_val]
  · show ((win0 (adm (F := F) c) 0).blk t).view.read (Elt F) (V1 m c main_arg0) = xBlk m c t.val
    unfold xBlk; rw [pt_val]

theorem before_w (c : Dev nD) (t : Fin grid0.N) (d) : (dat m c).before 1 t d = wBlk m c t.val := by
  refine ((dat m c).before_in_eq_fetched 1 rfl (fun _ => rfl) (fun _ _ _ => rfl) (fun t => ?_) t d).trans ?_
  · show wBlk m c t.val = ((win0 (adm (F := F) c) 1).blk t).view.read (Elt F) (V1 m c main_arg1)
    unfold wBlk; rw [pt_val]
  · show ((win0 (adm (F := F) c) 1).blk t).view.read (Elt F) (V1 m c main_arg1) = wBlk m c t.val
    unfold wBlk; rw [pt_val]

/-- What is owed, as the pipeline states it. -/
theorem owesAt_of_ow (c : Dev nD) (t : Fin (grid0.N + 1)) : (ow c (Ow c t.val) : sProp 𝕄) ⊢ ((dat m c).owesAt () t : sProp 𝕄) := by
  unfold ow Dat.owesAt Pipeline.owesWithin Dat.bound
  iintro ⟨%W, HO⟩
  iexists W
  isplitr; · ipureintro; exact fun _ _ => Or.inl trivial
  iexact HO
theorem ow_of_owesAt (c : Dev nD) (t : Fin (grid0.N + 1)) : ((dat m c).owesAt () t : sProp 𝕄) ⊢ (ow c (Ow c t.val) : sProp 𝕄) := by
  unfold ow Dat.owesAt Pipeline.owesWithin
  iintro ⟨%W, -, HO⟩
  iexists W; iexact HO

/-- The staging buffers current at point `t`. -/
abbrev xAt (c : Dev nD) (t : Fin grid0.N) : Memref sig .tc .vmem S2048x1024 .f32 := (spec0 0).stage ((cfg0 (adm (F := F) c)).slots t 0)
/-- The staging buffers current at point `t`. -/
abbrev wAt (c : Dev nD) (t : Fin grid0.N) : Memref sig .tc .vmem S1024x1024 .f32 := (spec0 1).stage ((cfg0 (adm (F := F) c)).slots t 1)

/-- One point of the obligation, its blocks named. -/
theorem obligation_at (c : Dev nD) (t : Fin grid0.N) :
    iprop(Inv m c t.val ∗ (dat m c).owesAt () t.castSucc ∗ owns (c : Thread nD τ) (xAt (F := F) c t) fullShare (xBlk m c t.val)
        ∗ owns (c : Thread nD τ) (wAt (F := F) c t) fullShare (wBlk m c t.val))
      ⊢ wpB (F := F) c ((defs₀ (F := F)) .tc (cfg0 (adm (F := F) c)).body ((cfg0 (adm (F := F) c)).bodyArgs t ((cfg0 (adm (F := F) c)).slots t))) fun _ =>
          iprop(Inv m c (t.val + 1) ∗ (dat m c).owesAt () t.succ ∗ owns (c : Thread nD τ) (xAt (F := F) c t) fullShare (xBlk m c t.val)
            ∗ owns (c : Thread nD τ) (wAt (F := F) c t) fullShare (wBlk m c t.val)) := by
  obtain ⟨h0, h1⟩ := coords_val t
  iintro ⟨HI, HO, Hx, Hw⟩
  ihave HO := (ow_of_owesAt m c t.castSucc) $$ HO
  iapply (body_point m c t.val (grid0.coords t) (lt_of_lt_of_eq t.isLt N_0) h0 h1 (hxv := hstage0_0 _) (hwv := hstage0_1 _)) $$ [HI HO Hx Hw]
  · isplitl [HI]; · iexact HI
    isplitl [Hx Hw]
    · isplitl [Hx]; · iexact Hx
      iexact Hw
    iexact HO
  iintro ⟨HI, ⟨Hx, Hw⟩, HO⟩
  isplitl [HI]; · iexact HI
  isplitl [HO]; · iapply (owesAt_of_ow m c t.succ); iexact HO
  isplitl [Hx]; · iexact Hx
  iexact Hw

/-- The body at every point of device `c`'s pipeline. -/
theorem obligation (c : Dev nD) : BodyObligation (dat m c) (defs₀ (F := F)) 𝒱₀ () Set.univ := fun t => by
  rw [bigSep_W0, bigSep_W0]
  refine BIBase.Entails.trans ?_ (obligation_at m c t)
  iintro ⟨HI, HO, ⟨%d0, Hx⟩, ⟨%d1, Hw⟩⟩
  isplitl [HI]
  · ihave HI := (Entails.of_eq (show (dat m c).Φ t.castSucc = Inv m c t.val from rfl)) $$ HI
    iexact HI
  isplitl [HO]; · iexact HO
  isplitl [Hx]
  · ihave Hx := (Entails.of_eq (congrArg (owns (c : Thread nD τ) (xAt (F := F) c t) fullShare) (before_x m c t d0))) $$ Hx
    iexact Hx
  · ihave Hw := (Entails.of_eq (congrArg (owns (c : Thread nD τ) (wAt (F := F) c t) fullShare) (before_w m c t d1))) $$ Hw
    iexact Hw

end Cert.KernelIdeal.Run

end
-- ==== Proof.Buffers.lean ====
/-
  The buffers cut into the pieces the protocol hands around, and joined again: the landing buffer's three slots, the
  sending buffer's two, the result's four blocks of rows.
-/
module

public import proofs.«01_k».proof.Proof.Region

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

set_option maxRecDepth 4000

omit [FloatOps F] in
theorem anyAt_of_set {sp : Space} {sh : Shape} {e : EltTy} (v : Memref sig .tc sp sh e) (f : v.view.ty.Contents (Elt F)) :
    (v.view.loc (c : Thread nD τ) ↦[v.view.set]{fullShare} f : sProp 𝕄) ⊢ anyAt c v := by
  unfold anyAt; iintro H; iexists (v.view.read (Elt F) f); iapply (owns_intro (c : Thread nD τ) v fullShare f); iexact H
omit [FloatOps F] in
theorem set_of_anyAt {sp : Space} {sh : Shape} {e : EltTy} (v : Memref sig .tc sp sh e) :
    (anyAt c v : sProp 𝕄) ⊢ iprop(∃ f, v.view.loc (c : Thread nD τ) ↦[v.view.set]{fullShare} f) := by
  unfold anyAt owns; iintro ⟨%X, %f, -, H⟩; iexists f; iexact H
omit [FloatOps F] in
/-- A piece owned at what it reads of `g` is held at `g`. -/
theorem set_of_owns {sp : Space} {sh : Shape} {e : EltTy} (v : Memref sig .tc sp sh e) (g : v.view.ty.Contents (Elt F)) {X : sh.Idx → Elt F e}
    (h : v.view.read (Elt F) g = X) :
    (owns (c : Thread nD τ) v fullShare X : sProp 𝕄) ⊢ (v.view.loc (c : Thread nD τ) ↦[v.view.set]{fullShare} g) := by
  unfold owns; iintro ⟨%f, %hf, H⟩
  iapply (Entails.of_eq (pointsTo_congr (fun x hx => ?_))) $$ H
  obtain ⟨j, -, rfl⟩ := Finset.mem_map.mp hx
  exact (cast_bijective (congrArg (Elt F) v.view.elt_eq)).1 (congrFun (hf.trans h.symm) j)

omit [FloatOps F] in
theorem bigSep3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep2 (Φ : Fin 2 → sProp 𝕄) : bigSep Finset.univ Φ = iprop(Φ 0 ∗ Φ 1) :=
  bigSep_univ_eq_bigSepL [0, 1] (by decide) (by decide) Φ
omit [FloatOps F] in
theorem bigSep_src (Φ : Dev nD → sProp 𝕄) : bigSep Finset.univ Φ = iprop(Φ (src c 0) ∗ Φ (src c 1) ∗ Φ (src c 2) ∗ Φ (src c 3)) :=
  bigSep_univ_eq_bigSepL [src c 0, src c 1, src c 2, src c 3] (by revert c; decide) (by revert c; decide) Φ

omit [FloatOps F] in
theorem stage_split (f : Buf (Elt F) ((c : Thread nD τ).loc cc0_scratch2)) :
    (((c : Thread nD τ).loc cc0_scratch2) ↦{fullShare} f : sProp 𝕄) ⊢ iprop(anyAt c (stageM 0) ∗ anyAt c (stageM 1) ∗ anyAt c (stageM 2)) := by
  rw [Ring.pointsTo_blocks (ℓ := (c : Thread nD τ).loc cc0_scratch2) stageSet stage_disj stage_cover f, ← bigSep3 (fun j => anyAt c (stageM j))]
  exact bigSep_mono fun j _ => anyAt_of_set c (stageM j) f
omit [FloatOps F] in
theorem send_split (f : Buf (Elt F) ((c : Thread nD τ).loc cc0_scratch1)) :
    (((c : Thread nD τ).loc cc0_scratch1) ↦{fullShare} f : sProp 𝕄) ⊢ iprop(anyAt c (sendM 0) ∗ anyAt c (sendM 1)) := by
  rw [Ring.pointsTo_blocks (ℓ := (c : Thread nD τ).loc cc0_scratch1) sendSet send_disj send_cover f, ← bigSep2 (fun j => anyAt c (sendM j))]
  exact bigSep_mono fun j _ => anyAt_of_set c (sendM j) f
omit [FloatOps F] in
theorem out_split (f : Buf (Elt F) ((c : Thread nD τ).loc main_v6)) :
    (((c : Thread nD τ).loc main_v6) ↦{fullShare} f : sProp 𝕄)
      ⊢ iprop(anyAt c (outM (src c 0)) ∗ anyAt c (outM (src c 1)) ∗ anyAt c (outM (src c 2)) ∗ anyAt c (outM (src c 3))) := by
  rw [Ring.pointsTo_blocks (ℓ := (c : Thread nD τ).loc main_v6) outSet out_disj out_cover f, ← bigSep_src c (fun j => anyAt c (outM j))]
  exact bigSep_mono fun j _ => anyAt_of_set c (outM j) f

omit [FloatOps F] in
theorem stage_join : iprop(anyAt c (stageM 0) ∗ anyAt c (stageM 1) ∗ anyAt c (stageM 2))
    ⊢ (iprop(∃ f : Buf (Elt F) ((c : Thread nD τ).loc cc0_scratch2), ((c : Thread nD τ).loc cc0_scratch2) ↦{fullShare} f) : sProp 𝕄) := by
  iintro ⟨H0, H1, H2⟩
  ihave H0 := (set_of_anyAt c (stageM 0)) $$ H0
  icases H0 with ⟨%f, H0⟩
  iapply (Ring.pointsTo_blocks_join_exists (ℓ := (c : Thread nD τ).loc cc0_scratch2) stageSet stage_disj stage_cover f)
  rw [bigSep3]
  isplitl [H0]; · iexists f; iexact H0
  isplitl [H1]; · iapply (set_of_anyAt c (stageM 1)); iexact H1
  iapply (set_of_anyAt c (stageM 2)); iexact H2
omit [FloatOps F] in
theorem send_join : iprop(anyAt c (sendM 0) ∗ anyAt c (sendM 1))
    ⊢ (iprop(∃ f : Buf (Elt F) ((c : Thread nD τ).loc cc0_scratch1), ((c : Thread nD τ).loc cc0_scratch1) ↦{fullShare} f) : sProp 𝕄) := by
  iintro ⟨H0, H1⟩
  ihave H0 := (set_of_anyAt c (sendM 0)) $$ H0
  icases H0 with ⟨%f, H0⟩
  iapply (Ring.pointsTo_blocks_join_exists (ℓ := (c : Thread nD τ).loc cc0_scratch1) sendSet send_disj send_cover f)
  rw [bigSep2]
  isplitl [H0]; · iexists f; iexact H0
  iapply (set_of_anyAt c (sendM 1)); iexact H1
/-- The four blocks of the result are the whole. -/
theorem out_join : iprop(owns (c : Thread nD τ) (outM (src c 0)) fullShare (outBlk m c 0) ∗ owns (c : Thread nD τ) (outM (src c 1)) fullShare (outBlk m c 1)
      ∗ owns (c : Thread nD τ) (outM (src c 2)) fullShare (outBlk m c 2) ∗ owns (c : Thread nD τ) (outM (src c 3)) fullShare (outBlk m c 3))
    ⊢ (((c : Thread nD τ).loc main_v6) ↦{fullShare} OUT m c : sProp 𝕄) := by
  rw [Ring.pointsTo_blocks (ℓ := (c : Thread nD τ).loc main_v6) outSet out_disj out_cover (OUT m c),
    bigSep_src c (fun b => ((c : Thread nD τ).loc main_v6) ↦[outSet b]{fullShare} OUT m c)]
  iintro ⟨H0, H1, H2, H3⟩
  isplitl [H0]; · iapply (set_of_owns c (outM (src c 0)) (OUT m c) (read_OUT m c 0)); iexact H0
  isplitl [H1]; · iapply (set_of_owns c (outM (src c 1)) (OUT m c) (read_OUT m c 1)); iexact H1
  isplitl [H2]; · iapply (set_of_owns c (outM (src c 2)) (OUT m c) (read_OUT m c 2)); iexact H2
  iapply (set_of_owns c (outM (src c 3)) (OUT m c) (read_OUT m c 3)); iexact H3

omit [FloatOps F] in
theorem acc_split (f : Buf (Elt F) ((c : Thread nD τ).loc cc0_scratch0)) : (((c : Thread nD τ).loc cc0_scratch0) ↦{fullShare} f : sProp 𝕄) ⊢ anyAt c accM := by
  rw [← owns_whole (c : Thread nD τ) cc0_scratch0 fullShare f]
  exact anyAt_intro c accM f
omit [FloatOps F] in
theorem acc_join : anyAt c accM
    ⊢ (iprop(∃ f : Buf (Elt F) ((c : Thread nD τ).loc cc0_scratch0), ((c : Thread nD τ).loc cc0_scratch0) ↦{fullShare} f) : sProp 𝕄) := by
  unfold anyAt accM; iintro ⟨%X, H⟩; iexists X
  iapply (Entails.of_eq (owns_whole (c : Thread nD τ) cc0_scratch0 fullShare X)) $$ H

end Cert.KernelIdeal.Run

end
-- ==== Proof.Segment.lean ====
/-
  The kernel region as a segment of the program: what a device brings to it, how the protocol's cells on the kernel's own
  semaphores are opened on entry, how the invariant at the first point is made and what the one at the last gives back.
-/
module

public import proofs.«01_k».proof.Proof.Buffers

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

set_option maxRecDepth 4000

/-! ## What a device brings -/

/-- The kernel's own semaphores. -/
def osem : Fin 6 → SemLoc sig
  | 0 => .dma (sendS 0) | 1 => .dma (sendS 1) | 2 => .dma (recvS 0) | 3 => .dma (recvS 1) | 4 => .dma (recvS 2) | 5 => .dma copyS

theorem osem_facts : Pipeline.OwnSemFacts spec0 osem := by decide

/-- The rights to open the cells on them; -/
def opens : sProp 𝕄 :=
  iprop(openTok ER (sendCell c 0) ∗ openTok ER (sendCell c 1) ∗ openTok ER (recvCell c 0) ∗ openTok ER (recvCell c 1) ∗ openTok ER (recvCell c 2)
    ∗ openTok ER (copyCell c))
/-- their counters at zero; -/
def zeros : sProp 𝕄 :=
  iprop(semVal (sendCell c 0) 0 ∗ semVal (sendCell c 1) 0 ∗ semVal (recvCell c 0) 0 ∗ semVal (recvCell c 1) 0 ∗ semVal (recvCell c 2) 0 ∗ semVal (copyCell c) 0)
/-- the positions they give. -/
def atps : sProp 𝕄 :=
  iprop(atp c (.dma (sendS 0)) 0 ∗ atp c (.dma (sendS 1)) 0 ∗ atp c (.dma (recvS 0)) 0 ∗ atp c (.dma (recvS 1)) 0 ∗ atp c (.dma (recvS 2)) 0
    ∗ atp c (.dma copyS) 0)
/-- The duties the device pays: a unit on every barrier cell, the three messages at both ends, the four copies. -/
def duties : sProp 𝕄 :=
  iprop((dutyTok ER (barCell 0) 0 c ∗ dutyTok ER (barCell 1) 0 c ∗ dutyTok ER (barCell 2) 0 c ∗ dutyTok ER (barCell 3) 0 c)
    ∗ (snd c 0 ∗ snd c 1 ∗ snd c 2)
    ∗ (dutyTok ER (copyCell c) 0 0 ∗ dutyTok ER (copyCell c) 1 0 ∗ dutyTok ER (copyCell c) 2 0 ∗ dutyTok ER (copyCell c) 3 0))
/-- The credits for what the others owe it. -/
def creds : sProp 𝕄 :=
  iprop(cred (tallyAt (barCell c) () 3)
    ∗ (cred (tallyAt (recvCell c 0) () NB) ∗ cred (tallyAt (recvCell c 1) () NB) ∗ cred (tallyAt (recvCell c 2) () NB)))

/-- Before the region. -/
def start : sProp 𝕄 :=
  iprop((∃ K, invAll m K) ∗ reachBar ∗ atPos ER (barCell c) 0 ∅ 0 ∗ opens c ∗ duties c ∗ creds c)
/-- Inside it, its cells open. -/
def ready : sProp 𝕄 :=
  iprop((∃ K, ctx m K) ∗ atp c (.reg barS) 0 ∗ atps c ∗ duties c ∗ creds c ∗ (((c : Thread nD τ).loc main_v6) ↦{fullShare} V1 m c main_v6))
/-- After it: the inputs as they were, the result, the barrier semaphore at zero. -/
def done : sProp 𝕄 :=
  iprop((((c : Thread nD τ).loc main_arg0) ↦{fullShare} V1 m c main_arg0) ∗ (((c : Thread nD τ).loc main_arg1) ↦{fullShare} V1 m c main_arg1)
    ∗ (((c : Thread nD τ).loc main_v6) ↦{fullShare} OUT m c) ∗ semVal (barCell c) 0)

/-! ## Entry -/

theorem ownSems0_zeros : (Pipeline.ownSems0 osem c : sProp 𝕄) = zeros c := by
  unfold Pipeline.ownSems0 zeros
  rw [bigSep_univ_eq_bigSepL [0, 1, 2, 3, 4, 5] (by decide) (by decide)]
  rfl

/-- One cell opened. -/
theorem open_one (K : Dev nD × Fin 7 → ℕ) (sm : SemLoc sig) (p : Dev nD × Fin 7) (h : cellAt p = ((c : Thread nD τ), sm)) :
    iprop(invAll m K ∗ openTok ER ((c : Thread nD τ), sm) ∗ semVal ((c : Thread nD τ), sm) 0) ⊢ (|={Set.univ}=> atp c sm 0 : sProp 𝕄) := by
  have hi : (invAll m K : sProp 𝕄) ⊢ cellInv ER (Rd m) (K p) (cellAt p) := by
    unfold invAll; exact bigSep_elim (Finset.mem_univ p)
  rw [h] at hi
  unfold atp
  iintro ⟨#HI, Ho, Hv⟩
  iapply (Rounds.cell_open ER (Rd m) (g := ((c : Thread nD τ), sm)) (Set.mem_univ (K p)))
  isplitr; · iapply hi; iexact HI
  isplitl [Ho] <;> iassumption

theorem open_all (K : Dev nD × Fin 7 → ℕ) : iprop(invAll m K ∗ opens c ∗ zeros c) ⊢ (|={Set.univ}=> atps c : sProp 𝕄) := by
  unfold opens zeros atps
  iintro ⟨#HI, ⟨O0, O1, O2, O3, O4, O5⟩, ⟨Z0, Z1, Z2, Z3, Z4, Z5⟩⟩
  imod (open_one m c K (.dma (sendS 0)) (c, 1) rfl) $$ [O0 Z0] with A0
  · isplitr; · iexact HI
    isplitl [O0] <;> iassumption
  imod (open_one m c K (.dma (sendS 1)) (c, 2) rfl) $$ [O1 Z1] with A1
  · isplitr; · iexact HI
    isplitl [O1] <;> iassumption
  imod (open_one m c K (.dma (recvS 0)) (c, 3) rfl) $$ [O2 Z2] with A2
  · isplitr; · iexact HI
    isplitl [O2] <;> iassumption
  imod (open_one m c K (.dma (recvS 1)) (c, 4) rfl) $$ [O3 Z3] with A3
  · isplitr; · iexact HI
    isplitl [O3] <;> iassumption
  imod (open_one m c K (.dma (recvS 2)) (c, 5) rfl) $$ [O4 Z4] with A4
  · isplitr; · iexact HI
    isplitl [O4] <;> iassumption
  imod (open_one m c K (.dma copyS) (c, 6) rfl) $$ [O5 Z5] with A5
  · isplitr; · iexact HI
    isplitl [O5] <;> iassumption
  imodintro
  isplitl [A0]; · iexact A0
  isplitl [A1]; · iexact A1
  isplitl [A2]; · iexact A2
  isplitl [A3]; · iexact A3
  isplitl [A4] <;> iassumption

theorem ready_intro : iprop(start m c ∗ zeros c ∗ levAts L lv ∗ (((c : Thread nD τ).loc main_v6) ↦{fullShare} V1 m c main_v6))
    ⊢ (|={Set.univ}=> ready m c : sProp 𝕄) := by
  unfold start ready
  iintro ⟨⟨⟨%K, #HI⟩, #HR, Hb, Ho, HD, HC⟩, HZ, #HL, Hv⟩
  imod (open_all m c K) $$ [Ho HZ] with HA
  · isplitr; · iexact HI
    isplitl [Ho] <;> iassumption
  imodintro
  isplitr
  · iexists K; unfold ctx
    isplitr; · iexact HI
    isplitr; · iexact HR
    iexact HL
  isplitl [Hb]
  · unfold atp; isplitl [Hb]; · iexact Hb
    iapply (show (reachBar : sProp 𝕄) ⊢ reached ER (barCell c) 0 from by unfold reachBar; exact bigSep_elim (Finset.mem_univ c)); iexact HR
  isplitl [HA]; · iexact HA
  isplitl [HD]; · iexact HD
  isplitl [HC] <;> iassumption

theorem share_full (w : Fin 2) : (dat m c).share w = fullShare := by unfold Dat.share; exact ite_self _

set_option backward.isDefEq.respectTransparency.types false in
/-- The device's memory sorted into what the region takes. -/
theorem region_bufs : StableHlo.held (c : Thread nD τ) (Pipeline.ucRefs τ sig) (V1 m c)
    ⊢ (iprop((dat m c).arrays ((dat m c).arrAt · 0) ∗ Pipeline.prefHeld pre0 c (fun _ => fullShare) (tbl (F := F) c)
      ∗ (((c : Thread nD τ).loc main_v6) ↦{fullShare} V1 m c main_v6)) : sProp 𝕄) := by
  rw [← Pipeline.unscopedBufs_held (Ix := Unit) (Name := ℕ) (U := UU) (Lvl := ℕ) c (V1 m c)]
  have h1 := Pipeline.PerCore.arrays_of_unscopedBufs (Ix := Unit) (Name := ℕ) (U := UU) (Lvl := ℕ) (pcfgs (F := F)) adms (dats m) (p := 0) winFacts0 arr_whole0 c (share_full m c)
    (fun b => V1 m c (Proc.devRef .tc b)) (fun w => by fin_cases w <;> rfl)
  have h2 := unscopedRestP0_eq (Ix := Unit) (Name := ℕ) (U := UU) (Lvl := ℕ) c (fun b => V1 m c (Proc.devRef .tc b))
  have h3 := Pipeline.unscopedRest_split (Ix := Unit) (Name := ℕ) (U := UU) (Lvl := ℕ) preFacts0 c (fun b => V1 m c (Proc.devRef .tc b))
  rw [show Pipeline.unscopedRest (pcfgs (F := F) 0).spec c (fun b => V1 m c (Proc.devRef .tc b))
      = (Pipeline.unscopedRest (Ix := Unit) (Name := ℕ) (U := UU) (Lvl := ℕ) spec0 c (fun b => V1 m c (Proc.devRef .tc b)) : sProp 𝕄) from rfl, h3, h2] at h1
  refine h1.trans ?_
  rw [show (fun k => V1 m c (Proc.devRef .tc (pre0.ref k))) = tbl (F := F) c from funext fun k => by fin_cases k; exact V1_main_v5 m c]
  iintro ⟨HA, HP, -, -, -, -, -, -, Hv⟩
  isplitl [HA]; · iexact HA
  isplitl [HP] <;> iassumption

/-! ## The invariant at the first point and at the last -/

/-- The landing slot handed to device `n`, none to itself. -/
def slotFor (n : Dev nD) : sProp 𝕄 := if n = c then iprop(emp) else anyAt c (stageM (slotOf c n))

omit [FloatOps F] in
theorem slots_deal : iprop(anyAt c (stageM 0) ∗ anyAt c (stageM 1) ∗ anyAt c (stageM 2))
    ⊢ (iprop(slotFor c 0 ∗ slotFor c 1 ∗ slotFor c 2 ∗ slotFor c 3) : sProp 𝕄) := by
  have hs (j : Fin 3) : slotOf c (dst c j.val) = Fin.rev j := by revert c j; decide
  have hn (j : Fin 3) : dst c j.val ≠ c := by revert c j; decide
  have h4 := bigSep_univ_eq_bigSepL [(0 : Dev nD), 1, 2, 3] (by decide) (by decide) (fun n => (slotFor c n : sProp 𝕄))
  refine BIBase.Entails.trans ?_ (Entails.of_eq h4)
  have hj (j : Fin 3) : (slotFor c (dst c j.val) : sProp 𝕄) = anyAt c (stageM (Fin.rev j)) := by
    unfold slotFor; rw [if_neg (hn j), hs]
  rw [bigSep_univ_at _ c, erase_eq, bigSep_map, show (slotFor c c : sProp 𝕄) = iprop(emp) from if_pos rfl, bigSep3]
  iintro ⟨H0, H1, H2⟩
  isplitr; · iempintro
  isplitl [H2]; · iapply (Entails.of_eq (hj 0).symm); iexact H2
  isplitl [H1]; · iapply (Entails.of_eq (hj 1).symm); iexact H1
  iapply (Entails.of_eq (hj 2).symm); iexact H0

/-- What goes with the unit on device `n`'s barrier cell. -/
theorem Sg_intro (n : Dev nD) : iprop((reached ER (recvCell c 0) 0 ∗ reached ER (recvCell c 1) 0 ∗ reached ER (recvCell c 2) 0)
    ∗ dutyTok ER (barCell n) 0 c ∗ slotFor c n) ⊢ (Sg c n : sProp 𝕄) := by
  unfold Sg slotFor
  by_cases h : n = c
  · rw [if_pos h, if_pos h]; iintro ⟨-, -, H⟩; iexact H
  · rw [if_neg h, if_neg h]
    have hr (j : Fin 3) : iprop(reached ER (recvCell c 0) 0 ∗ reached ER (recvCell c 1) 0 ∗ reached ER (recvCell c 2) 0)
        ⊢ (reached ER (recvCell c j) 0 : sProp 𝕄) := by
      fin_cases j
      · iintro ⟨H, -, -⟩; iexact H
      · iintro ⟨-, H, -⟩; iexact H
      · iintro ⟨-, -, H⟩; iexact H
    unfold barPay
    iintro ⟨HR, HT, HS⟩
    isplitl [HT]; · iexact HT
    isplitl [HS]; · iexact HS
    iapply (hr (slotOf c n)); iexact HR

/-- The protocol's state at the first point. -/
theorem T0_intro : iprop(atp c (.reg barS) 0 ∗ atps c ∗ duties c ∗ creds c ∗ (((c : Thread nD τ).loc main_v6) ↦{fullShare} V1 m c main_v6)
      ∗ (anyAt c (stageM 0) ∗ anyAt c (stageM 1) ∗ anyAt c (stageM 2)) ∗ (anyAt c (sendM 0) ∗ anyAt c (sendM 1)))
    ⊢ (T0 c : sProp 𝕄) := by
  unfold atps duties creds T0 rest
  iintro ⟨Hb, ⟨As0, As1, Ar0, Ar1, Ar2, Ac⟩, ⟨⟨D0, D1, D2, D3⟩, HS, HC⟩, ⟨Cb, Cr⟩, Hv, Hst, Hse⟩
  ihave Ar0' := (show (atp c (.dma (recvS 0)) 0 : sProp 𝕄) ⊢ iprop(atPos ER (recvCell c 0) 0 ∅ 0 ∗ reached ER (recvCell c 0) 0) from .rfl) $$ Ar0
  ihave Ar1' := (show (atp c (.dma (recvS 1)) 0 : sProp 𝕄) ⊢ iprop(atPos ER (recvCell c 1) 0 ∅ 0 ∗ reached ER (recvCell c 1) 0) from .rfl) $$ Ar1
  ihave Ar2' := (show (atp c (.dma (recvS 2)) 0 : sProp 𝕄) ⊢ iprop(atPos ER (recvCell c 2) 0 ∅ 0 ∗ reached ER (recvCell c 2) 0) from .rfl) $$ Ar2
  icases Ar0' with ⟨Ar0, #R0⟩
  icases Ar1' with ⟨Ar1, #R1⟩
  icases Ar2' with ⟨Ar2, #R2⟩
  ihave Hd := (slots_deal (F := F) c) $$ Hst
  icases Hd with ⟨S0, S1, S2, S3⟩
  isplitl [D0 D1 D2 D3 S0 S1 S2 S3]
  · isplitl [D0 S0]
    · iapply (Sg_intro (F := F) c 0)
      isplitr
      · isplitr; · iexact R0
        isplitr; · iexact R1
        iexact R2
      isplitl [D0] <;> iassumption
    isplitl [D1 S1]
    · iapply (Sg_intro (F := F) c 1)
      isplitr
      · isplitr; · iexact R0
        isplitr; · iexact R1
        iexact R2
      isplitl [D1] <;> iassumption
    isplitl [D2 S2]
    · iapply (Sg_intro (F := F) c 2)
      isplitr
      · isplitr; · iexact R0
        isplitr; · iexact R1
        iexact R2
      isplitl [D2] <;> iassumption
    · iapply (Sg_intro (F := F) c 3)
      isplitr
      · isplitr; · iexact R0
        isplitr; · iexact R1
        iexact R2
      isplitl [D3] <;> iassumption
  isplitl [Cb]; · iexact Cb
  isplitl [Hb]; · iexact Hb
  isplitl [HS]; · iexact HS
  isplitl [Hse]; · iexact Hse
  isplitl [As0]; · iexact As0
  isplitl [Cr]; · iexact Cr
  isplitl [As1]; · iexact As1
  isplitl [Ar0 Ar1 Ar2]
  · unfold atp
    isplitl [Ar0]
    · isplitl [Ar0]; · iexact Ar0
      iexact R0
    isplitl [Ar1]
    · isplitl [Ar1]; · iexact Ar1
      iexact R1
    isplitl [Ar2]; · iexact Ar2
    iexact R2
  isplitl [Ac]; · iexact Ac
  isplitl [HC]; · iexact HC
  iapply (out_split (F := F) c _); iexact Hv

theorem prefHeld_tbl : (Pipeline.prefHeld pre0 c (fun _ => fullShare) (tbl (F := F) c) : sProp 𝕄) ⊢ tblAt c := by
  have hf (f : main_v5.ty.Contents (Elt F)) : ((c : Thread nD τ).loc main_v5 ↦{fullShare} f : sProp 𝕄) ⊢ owns (c : Thread nD τ) (Memref.whole main_v5) fullShare f :=
    Entails.of_eq (owns_whole (c : Thread nD τ) main_v5 fullShare f).symm
  unfold Pipeline.prefHeld
  refine (bigSep_elim (Finset.mem_univ (0 : Fin 1))).trans ?_
  exact hf (tbl c 0)

theorem first_point : iprop(ready m c ∗ Pipeline.prefHeld pre0 c (fun _ => fullShare) (tbl (F := F) c) ∗ Pipeline.scopedRest spec0 c) ⊢ (Inv m c 0 : sProp 𝕄) := by
  have e1 : Acc m c 0 = anyAt c accM := rfl
  have e2 : St m c 0 = T0 c := rfl
  unfold Inv ready
  rw [scopedRest0_eq, e1, e2]
  iintro ⟨⟨HK, Hb, HA, HD, HC, Hv⟩, HP, ⟨%f0, H0⟩, ⟨%f1, H1⟩, ⟨%f2, H2⟩⟩
  isplitl [HP]; · iapply (prefHeld_tbl (F := F) c); iexact HP
  isplitl [H0]; · iapply (acc_split c f0); iexact H0
  isplitl [HK]; · iexact HK
  iapply (T0_intro m c)
  isplitl [Hb]; · iexact Hb
  isplitl [HA]; · iexact HA
  isplitl [HD]; · iexact HD
  isplitl [HC]; · iexact HC
  isplitl [Hv]; · iexact Hv
  isplitl [H2]; · iapply (stage_split c f2); iexact H2
  iapply (send_split c f1); iexact H1

theorem last_point : (Inv m c 32 : sProp 𝕄)
    ⊢ iprop((semVal (barCell c) 0 ∗ (((c : Thread nD τ).loc main_v6) ↦{fullShare} OUT m c)) ∗ zeros c ∗ Pipeline.scopedRest spec0 c) := by
  have e1 : Acc m c 32 = anyAt c accM := rfl
  have e2 : St m c 32 = T5 m c := rfl
  unfold Inv
  rw [scopedRest0_eq, e1, e2]
  unfold T5 zeros
  iintro ⟨-, HA, -, Hb, HZ, Hst, Hse, HO⟩
  isplitl [Hb HO]
  · isplitl [Hb]; · iexact Hb
    iapply (out_join m c); iexact HO
  isplitl [HZ]; · iexact HZ
  isplitl [HA]; · iapply (acc_join (F := F) c); iexact HA
  isplitl [Hse]; · iapply (send_join (F := F) c); iexact Hse
  iapply (stage_join (F := F) c); iexact Hst

/-! ## Waits of the pipeline; the exit -/

theorem stage_lv : ∀ (w : Fin 2) (s : Fin (spec0 w).nbuf) (c : Dev nD), lv ((c : Thread nD τ), SemLoc.dma ((spec0 w).sem s)) () = 0 := by
  intro w; fin_cases w <;> (intro s c; fin_cases s <;> rfl)

theorem Ow_pos {n : ℕ} {g : GSem nD τ sig} {u : Unit} (h : 0 < Ow c n g u) : (∃ j : Fin 3, g = recvCell (dst c j.val) j) ∨ ∃ n, g = barCell n := by
  unfold Ow at h
  split at h
  · exact O₀_pos h
  · exact .inl (owedFrom_pos h)

/-- The pipeline may wait for its own transfers at any point: they are below everything owed. -/
theorem stage_waits (w : Fin 2) (s : Fin (spec0 w).nbuf) (n : ℕ) :
    (levAts L lv : sProp 𝕄) ⊢ MayWait (c : Thread nD τ) (.dma ((spec0 w).sem s)) () (Ow c n) :=
  MayOwe.of_cut (L := L) (lev := lv) 0 (fun p hp => by rw [Finset.mem_singleton.mp hp, L_tc]; exact Finset.mem_singleton_self _)
    (fun g u hg => by
      rcases Ow_pos c hg with ⟨j, rfl⟩ | ⟨n, rfl⟩
      · rw [L_tc]; exact Finset.mem_singleton_self _
      · rw [L_tc]; exact Finset.mem_singleton_self _)
    (fun p hp => by rw [Finset.mem_singleton.mp hp]; exact (stage_lv w s c).le)
    (fun g u hg => by
      rcases Ow_pos c hg with ⟨j, rfl⟩ | ⟨n, rfl⟩
      · rw [lv_recv]; decide
      · exact Nat.one_pos)

set_option backward.isDefEq.respectTransparency.types false in
theorem arrays_last : (dat m c).arrays ((dat m c).arrAt · grid0.N)
    ⊢ (iprop((((c : Thread nD τ).loc main_arg0) ↦{fullShare} V1 m c main_arg0) ∗ (((c : Thread nD τ).loc main_arg1) ↦{fullShare} V1 m c main_arg1)) : sProp 𝕄) := by
  have h := Pipeline.PerCore.arrays_eq (Ix := Unit) (Name := ℕ) (U := UU) (Lvl := ℕ) (fun c => Pipeline.pinD (pcfgs (F := F)) adms c) (dats m) 0 c arr_whole0 (share_full m c)
    ((dat m c).arrAt · grid0.N)
  refine (Entails.of_eq h).trans ?_
  rw [bigSep_W0]
  rw [(dat m c).arrAt_in 0 rfl, (dat m c).arrAt_in 1 rfl]
  exact .rfl

/-- The kernel region. -/
def region : Pipeline.PerCore.RegionSeg (pcfgs (F := F)) adms (dats m) () (defs₀ (F := F)) 𝒱₀ L lv 0 where
  win := winFacts0.to₀
  block_pos := block_pos0
  stage_whole := stage_whole0
  K := Fin 6
  osem := osem
  ho := osem_facts
  hbody c := (obligation m c).loose
  hwaits c := Pipeline.PerCore.cellsWaits_intro (Pipeline.pinD (pcfgs (F := F)) adms) (dats m) () 0 c fun w s t => stage_waits c w s t.val
  pre c := iprop(StableHlo.held (c : Thread nD τ) (Pipeline.ucRefs τ sig) (V1 m c) ∗ start m c ∗ ow c (O₀ c))
  post c := iprop(done m c ∗ ∃ W, owes (c : Thread nD τ) 0 W)
  X c := ready m c
  Y c := iprop(semVal (barCell c) 0 ∗ (((c : Thread nD τ).loc main_v6) ↦{fullShare} OUT m c))
  Z c := iprop(emp)
  hentry c := by
    rw [ownSems0_zeros]
    iintro ⟨⟨Hh, Hs, HO⟩, HZ, HL⟩
    ihave Hh := (region_bufs m c) $$ Hh
    icases Hh with ⟨HA, HP, Hv⟩
    imod (ready_intro m c) $$ [Hs HZ HL Hv] with HR
    · isplitl [Hs]; · iexact Hs
      isplitl [HZ]; · iexact HZ
      isplitl [HL] <;> iassumption
    imodintro
    isplitl [HA]; · iexact HA
    isplitl [HP]; · iexact HP
    isplitl [HO]; · iapply (owesAt_of_ow m c 0); iexact HO
    isplitl [HR]; · iexact HR
    iempintro
  hin c := first_point m c
  hout c := by
    rw [ownSems0_zeros]
    exact (Entails.of_eq (show (dats m 0 c).Φ (Fin.last _) = Inv m c 32 from congrArg (Inv m c) N_0)).trans (last_point m c)
  hexit c := by
    iintro ⟨HA, HO, ⟨Hb, Hv⟩, -⟩
    imodintro
    ihave HA := (arrays_last m c) $$ HA
    icases HA with ⟨H0, H1⟩
    isplitr [HO]
    · unfold done
      isplitl [H0]; · iexact H0
      isplitl [H1]; · iexact H1
      isplitl [Hv] <;> iassumption
    ihave HO := (ow_of_owesAt m c (Fin.last grid0.N)) $$ HO
    iapply (Entails.of_eq (show (ow c (Ow c (Fin.last grid0.N).val) : sProp 𝕄) = iprop(∃ W, owes (c : Thread nD τ) 0 W) from
      (congrArg (fun n => ow c (Ow c n)) N_0).trans rfl)); iexact HO

end Cert.KernelIdeal.Run

end
-- ==== Proof.Launch.lean ====
/-
  The launch: the protocol's cells and duties made, each device given its positions, its rights to open, the duties it pays
  and the credits for what it is owed.
-/
module

public import proofs.«01_k».proof.Proof.Segment

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000

/-! ## Cells and duties -/

def barEmb : Dev nD ↪ GSem nD τ sig := ⟨fun c => barCell c, fun _ _ h => congrArg (fun g : GSem nD τ sig => g.1.1) h⟩
def ownEmb : Dev nD × Fin 6 ↪ GSem nD τ sig :=
  ⟨fun p => ((p.1 : Thread nD τ), osem p.2), fun _ _ h =>
    Prod.ext (congrArg (fun g : GSem nD τ sig => g.1.1) h) (osem_facts.inj (congrArg Prod.snd h))⟩

/-- The barrier cells, made with their counters; the cells on the kernel's own semaphores, opened inside the region. -/
abbrev barCells : Finset (GSem nD τ sig) := Finset.univ.map barEmb
abbrev ownCells : Finset (GSem nD τ sig) := Finset.univ.map ownEmb

theorem osem_ne_bar : ∀ k : Fin 6, osem k ≠ .reg barS := by decide

theorem disjoint_cells : Disjoint (barCells : Finset (GSem nD τ sig)) ownCells := by
  rw [Finset.disjoint_left]
  intro g h1 h2
  obtain ⟨c, -, rfl⟩ := Finset.mem_map.mp h1
  obtain ⟨p, -, h⟩ := Finset.mem_map.mp h2
  exact osem_ne_bar p.2 (congrArg Prod.snd h)

theorem cell_mem (p : Dev nD × Fin 7) : cellAt p ∈ (barCells ∪ ownCells : Finset (GSem nD τ sig)) := by
  obtain ⟨c, k⟩ := p
  match k with
  | 0 => exact Finset.mem_union_left _ (Finset.mem_map_of_mem barEmb (Finset.mem_univ c))
  | 1 => exact Finset.mem_union_right _ (Finset.mem_map_of_mem ownEmb (Finset.mem_univ (c, (0 : Fin 6))))
  | 2 => exact Finset.mem_union_right _ (Finset.mem_map_of_mem ownEmb (Finset.mem_univ (c, (1 : Fin 6))))
  | 3 => exact Finset.mem_union_right _ (Finset.mem_map_of_mem ownEmb (Finset.mem_univ (c, (2 : Fin 6))))
  | 4 => exact Finset.mem_union_right _ (Finset.mem_map_of_mem ownEmb (Finset.mem_univ (c, (3 : Fin 6))))
  | 5 => exact Finset.mem_union_right _ (Finset.mem_map_of_mem ownEmb (Finset.mem_univ (c, (4 : Fin 6))))
  | 6 => exact Finset.mem_union_right _ (Finset.mem_map_of_mem ownEmb (Finset.mem_univ (c, (5 : Fin 6))))

/-- The `k`-th duty device `c` pays. -/
def dutyAt (p : Dev nD × Fin 14) : GSem nD τ sig × ℕ × Dev nD := match p.2 with
  | 0 => (barCell 0, 0, p.1)
  | 1 => (barCell 1, 0, p.1)
  | 2 => (barCell 2, 0, p.1)
  | 3 => (barCell 3, 0, p.1)
  | 4 => (recvCell (dst p.1 0) 0, 0, 0)
  | 5 => (recvCell (dst p.1 1) 1, 0, 0)
  | 6 => (recvCell (dst p.1 2) 2, 0, 0)
  | 7 => (sendCell p.1 0, 0, 0)
  | 8 => (sendCell p.1 1, 0, 0)
  | 9 => (sendCell p.1 0, 1, 0)
  | 10 => (copyCell p.1, 0, 0)
  | 11 => (copyCell p.1, 1, 0)
  | 12 => (copyCell p.1, 2, 0)
  | 13 => (copyCell p.1, 3, 0)

theorem dutyAt_inj : Function.Injective dutyAt := by
  have h : ∀ p q : Dev nD × Fin 14, dutyAt p = dutyAt q → p = q := by decide +kernel
  exact fun p q => h p q

def allDuties : Finset (GSem nD τ sig × ℕ × Dev nD) := Finset.univ.map ⟨dutyAt, dutyAt_inj⟩

omit [FloatOps F] in
theorem bigSep14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem duties_all : bigSep allDuties (fun x => (dutyTok ER x.1 x.2.1 x.2.2 : sProp 𝕄)) ⊢ bigSep Finset.univ fun c : Dev nD => duties c := by
  unfold allDuties
  rw [bigSep_map, bigSep_univ_prod]
  refine bigSep_mono fun c _ => ?_
  refine BIBase.Entails.trans (Entails.of_eq (bigSep14 _)) ?_
  unfold duties snd
  iintro ⟨B0, B1, B2, B3, R0, R1, R2, S0, S1, S2, C0, C1, C2, C3⟩
  isplitl [B0 B1 B2 B3]
  · isplitl [B0]; · iexact B0
    isplitl [B1]; · iexact B1
    isplitl [B2]; · iexact B2
    iexact B3
  isplitl [R0 R1 R2 S0 S1 S2]
  · isplitl [R0 S0]
    · isplitl [R0]; · iexact R0
      iexact S0
    isplitl [R1 S1]
    · isplitl [R1]; · iexact R1
      iexact S1
    isplitl [R2]; · iexact R2
    iexact S2
  isplitl [C0]; · iexact C0
  isplitl [C1]; · iexact C1
  isplitl [C2]; · iexact C2
  iexact C3

/-! ## Credits -/

theorem bar_ne_recv (c d : Dev nD) (j : Fin 3) : barCell c ≠ recvCell d j := fun h => by
  have h2 := congrArg Prod.snd h
  cases h2
theorem bar_eq (c d : Dev nD) : barCell c = barCell d ↔ c = d := ⟨fun h => congrArg (fun g : GSem nD τ sig => g.1.1) h, fun h => h ▸ rfl⟩
theorem recv_eq (c d : Dev nD) (j i : Fin 3) : recvCell c j = recvCell d i ↔ c = d ∧ j = i :=
  ⟨fun h => ⟨congrArg (fun g : GSem nD τ sig => g.1.1) h, by
    have h2 : recvS j = recvS i := by have := congrArg Prod.snd h; injection this
    have hi : ∀ j i : Fin 3, recvS j = recvS i → j = i := by decide
    exact hi j i h2⟩, fun ⟨h, h'⟩ => h ▸ h' ▸ rfl⟩

theorem owed_bar (d c : Dev nD) : O₀ d (barCell c) () = if c = d then 0 else 1 := by
  unfold O₀ owedFrom owedBar
  simp only [Pi.add_apply, Finsupp.add_apply, tallyAt_apply, bar_ne_recv, bar_eq, false_and, if_false, and_true, Pi.zero_apply, Finsupp.zero_apply]
  revert c d; decide

theorem owed_recv (d c : Dev nD) (j : Fin 3) : O₀ d (recvCell c j) () = if c = dst d j.val then NB else 0 := by
  unfold O₀ owedFrom owedBar
  simp only [Pi.add_apply, Finsupp.add_apply, tallyAt_apply, fun n => (bar_ne_recv n c j).symm, recv_eq, false_and, if_false, and_true, Pi.zero_apply, Finsupp.zero_apply]
  fin_cases j <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (j : Fin 3) :
    tallyOn (recvCell c j) (launchCredit (Pipeline.owing O₀) 0 (recvCell c j)) = (tallyAt (recvCell c j) () NB : CellTallies nD τ sig Unit) := by
  unfold tallyAt; refine congrArg _ (Finsupp.ext fun u => ?_); cases u
  rw [Pipeline.launchCredit_owing, Finsupp.single_eq_same, Finset.sum_congr rfl fun d _ => owed_recv d c j]
  have h (d : Dev nD) : (c = dst d j.val) = (d = src c (j.val + 1)) := by
    revert c d j; decide
  rw [Finset.sum_congr rfl fun d _ => if_congr (Iff.of_eq (h d)) rfl rfl, Finset.sum_ite_eq' Finset.univ _ fun _ => NB, if_pos (Finset.mem_univ _)]

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  rw [← launch_recv, ← launch_recv, ← launch_recv]
  have hm (j : Fin 3) : SemLoc.dma (recvS j) ∈ ((Finset.univ : Finset (SemLoc sig)).erase (.reg barS)) := by revert j; decide
  have he : ((Finset.univ.map ⟨fun j : Fin 3 => (SemLoc.dma (recvS j) : SemLoc sig), by decide⟩) : Finset (SemLoc sig)) ⊆ Finset.univ.erase (.reg barS) := by
    intro x hx
    obtain ⟨j, -, rfl⟩ := Finset.mem_map.mp hx
    exact hm j
  refine (bigSep_subset he).trans ?_
  rw [bigSep_map, bigSep3]
  exact BI.Entails.refl _

end Cert.KernelIdeal.Run

end
-- ==== Proof.Run.lean ====
/-
  The run of the whole program on the four devices, over any float values: it ends, the inputs are as they were, every
  device's result holds its four blocks, and every semaphore counter is at zero.
-/
module

public import proofs.«01_k».proof.Proof.Launch

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000

/-! ## The launch's resources -/

theorem cells_inj : Function.Injective (Pipeline.PerCore.cellOf (nD := nD) (τ := τ) (Pipeline.pinD (pcfgs (F := F)) adms)) := by
  refine Pipeline.PerCore.cellOf_injective (Pipeline.pinD (pcfgs (F := F)) adms) (fun _ => ?_) (fun _ p p' h => absurd (Subsingleton.elim p p') h)
  intro p
  fin_cases p
  exact Pipeline.specSemsDistinct_of_nodup _ (semsDistinct 0)

/-- The pipeline's share, and the protocol's. -/
def u₀ : UU :=
  (initOf (Pipeline.PerCore.cells (Pipeline.pinD (pcfgs (F := F)) adms) cells_inj) (Pipeline.PerCore.launchToks (Pipeline.pinD (pcfgs (F := F)) adms) cells_inj),
    launchOf barCells ownCells allDuties)

/-- `X` on device `0`, nothing on the others. -/
def onFirst (X : sProp 𝕄) (c : Dev nD) : sProp 𝕄 := if c = 0 then X else iprop(emp)
omit [FloatOps F] in
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The protocol's share, kept whole until every device's part is made. -/
def G : Dev nD → sProp 𝕄 := onFirst (BI.own (ER (launchOf barCells ownCells allDuties)))

/-- What every device may consult. -/
def records (κ : GSem nD τ sig → ℕ) : sProp 𝕄 :=
  iprop((bigSep (barCells ∪ ownCells) fun g => cellInv ER (Rd m) (κ g) g) ∗ bigSep barCells fun g => reached ER g 0)

instance records_persistent (κ : GSem nD τ sig → ℕ) : BI.Persistent (records m κ) := by unfold records; infer_instance

theorem records_inv (κ : GSem nD τ sig → ℕ) : (records m κ : sProp 𝕄) ⊢ iprop(invAll m (fun p => κ (cellAt p)) ∗ reachBar) := by
  have h : (bigSep (barCells ∪ ownCells) fun g => (cellInv ER (Rd m) (κ g) g : sProp 𝕄)) ⊢ invAll m (fun p => κ (cellAt p)) := by
    unfold invAll
    exact BI.bigSep_intro_persistent fun p _ => bigSep_elim (cell_mem p)
  have h' : (bigSep barCells fun g => (reached ER g 0 : sProp 𝕄)) ⊢ reachBar := by
    unfold reachBar
    exact Entails.of_eq (bigSep_map (s := Finset.univ) barEmb (Φ := fun g : GSem nD τ sig => (reached ER g 0 : sProp 𝕄)))
  unfold records
  iintro ⟨H1, H2⟩
  isplitl [H1]
  · iapply h; iexact H1
  · iapply h'; iexact H2

/-- What stays with device `c` of the protocol. -/
def mine (c : Dev nD) : sProp 𝕄 := iprop(atPos ER (barCell c) 0 ∅ 0 ∗ opens c ∗ duties c)
/-- What of its launch holdings is not the protocol's. -/
def held₀ (c : Dev nD) : sProp 𝕄 :=
  iprop(StableHlo.held (c : Thread nD τ) (Pipeline.ucRefs τ sig) (V0 m c) ∗ creds c ∗ ow c (O₀ c))

/-- What rides along the host operations. -/
abbrev E (_ : Fin 2) (c : Dev nD) : sProp 𝕄 := iprop(start m c ∗ ow c (O₀ c))
abbrev Tinit (c : Dev nD) : sProp 𝕄 := iprop(StableHlo.held (c : Thread nD τ) (Pipeline.ucRefs τ sig) (V0 m c) ∗ E m 0 c)

theorem Tinit_intro (κ : GSem nD τ sig → ℕ) (c : Dev nD) : iprop(records m κ ∗ (mine c ∗ held₀ m c)) ⊢ (Tinit m c : sProp 𝕄) := by
  unfold mine held₀ Tinit E start
  iintro ⟨#HR, ⟨Hb, Ho, HD⟩, Hh, HC, HO⟩
  ihave HI := (records_inv m κ) $$ HR
  icases HI with ⟨#HI, #HB⟩
  isplitl [Hh]; · iexact Hh
  isplitr [HO]
  · isplitr; · iexists (fun p => κ (cellAt p)); iexact HI
    isplitr; · iexact HB
    isplitl [Hb]; · iexact Hb
    isplitl [Ho]; · iexact Ho
    isplitl [HD] <;> iassumption
  · iexact HO

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

set_option backward.isDefEq.respectTransparency.types false in
theorem unscoped_held (c : Dev nD) : (unscopedBufs c (fun b => m ((c.tc : Thread nD τ).loc b)) : sProp 𝕄)
    ⊢ StableHlo.held (c : Thread nD τ) (Pipeline.ucRefs τ sig) (V0 m c) := by
  rw [← Pipeline.unscopedBufs_held (Ix := Unit) (Name := ℕ) (U := UU) (Lvl := ℕ) c (V0 m c)]

theorem init :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (Tinit m) : sProp 𝕄) := by
  have hcore (c : Dev nD) : iprop(unscopedBufs c (fun b => m ((c.tc : Thread nD τ).loc b)) ∗ unscopedSems0 c
        ∗ owes (c : Thread nD τ) (O₀ c) ∅ ∗ Pipeline.launchCred O₀ c ∗ prngReg c (ρ c) ∗ G c)
      ⊢ (iprop(held₀ m c ∗ (semVal (barCell c) 0 ∗ G c)) : sProp 𝕄) := by
    rw [unscopedSems0_eq]
    unfold held₀ ow
    iintro ⟨Hh, Hus, HO, Hcr, -, HG⟩
    isplitl [Hh HO Hcr]
    · isplitl [Hh]; · iapply (unscoped_held m c); iexact Hh
      isplitl [Hcr]; · iapply (creds_intro (F := F) c); iexact Hcr
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => (opens c : sProp 𝕄)) :=
    Entails.of_eq (by
      rw [bigSep_map, bigSep_univ_prod]
      exact bigSep_congr fun c _ => bigSep6 (fun k : Fin 6 => (openTok ER ((c : Thread nD τ), osem k) : sProp 𝕄)))
  iintro ⟨H, -⟩
  ihave H' := (show (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(held₀ m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells ownCells allDuties)) from
    Entails.of_eq (bigSep_onFirst (F := F) (BI.own (ER (launchOf barCells ownCells allDuties))))) $$ HG
  imod (Rounds.fund_launch ER (Rd m) disjoint_cells (fun g _ h => h) allDuties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine c ∗ held₀ m c)) fun c _ => Tinit_intro m κ c)
  isplitr
  · unfold records
    isplitr; · iexact Hinv
    iexact Hr
  iapply (Entails.of_eq (bigSep_sep' _ _ _).symm)
  isplitr [HB]
  · unfold mine
    iapply (Entails.of_eq (bigSep_sep' _ _ _).symm); isplitl [Hat]; · iapply hat $$ Hat
    iapply (Entails.of_eq (bigSep_sep' _ _ _).symm); isplitl [Hopen]; · iapply hopen $$ Hopen
    iapply (duties_all (F := F)); iexact Htok
  · iexact HB

/-! ## The run -/

def segs (c : Dev nD) : List (Pipeline.PerCore.Seg (pcfgs (F := F)) adms (dats m) () (defs₀ (F := F)) 𝒱₀ L lv) :=
  [.host (seg0 m 𝒱₀ L lv (E m) c), .region (region m)]

theorem unscoped_eq : ∀ sm : SemLoc sig, sm.isScoped .tc = false → sm = .reg barS := by decide

/-- What a final state holds on device `c`. -/
def Final (c : Dev nD) (s : MemSt nD τ sig (Elt F)) : Prop :=
  (s.mem ((c.tc : Thread nD τ).loc main_arg0) = V1 m c main_arg0 ∧ s.mem ((c.tc : Thread nD τ).loc main_arg1) = V1 m c main_arg1
    ∧ s.mem ((c.tc : Thread nD τ).loc main_v6) = OUT m c) ∧ s.sem (barCell c) = 0

set_option backward.isDefEq.respectTransparency.types false in
theorem run_main [∀ e, Nonempty (Elt F e)] : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v6) = OUT m c) ∧ r.2.sem = fun _ => 0) :=
  Pipeline.PerCore.θ_run_regions_kit_sems (pcfgs (F := F)) adms (dats m) () cells_inj EP defs₀ 𝒱₀ L lv m ρ main (segs m)
    (fun c Q => by
      rewrite [main_chain c, Pipeline.PerCore.Seg.run_eq_chain,
        show (segs m c).map Pipeline.PerCore.Seg.prog = [
          StableHlo.seq (hostOps0 c),
          Prog.lift (.customCall (Pipeline.entry 0) ()) ] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onFirst]; iexact HX)
    (T₀ := Tinit m) (Tₙ := done m)
    (hch := fun c => ⟨.rfl, .rfl, .rfl⟩)
    (hinit := init m ρ)
    (QY := Final m)
    (hfin := fun c s' => by
      unfold done
      iintro ⟨⟨H0, H1, Hv, Hb⟩, HSI⟩
      icombine HSI H0 gives %h0
      icombine HSI H1 gives %h1
      icombine HSI Hv gives %hv
      icombine HSI Hb gives %hb
      imodintro
      isplitr
      · ipureintro
        exact ⟨⟨Buf.eq_of_forall_mem_univ h0, Buf.eq_of_forall_mem_univ h1, Buf.eq_of_forall_mem_univ hv⟩, by simpa using hb⟩
      iexact HSI)
    (hQ := fun s h hs => ⟨fun c => by
        obtain ⟨⟨h0, h1, hv⟩, -⟩ := h c
        exact ⟨h0.trans (V1_of m c main_arg0 (by decide)), h1.trans (V1_of m c main_arg1 (by decide)), hv⟩,
      sem_eq_zero hs fun c sm hsm => by
        obtain rfl := unscoped_eq sm hsm
        exact (h c).2⟩)

end Cert.KernelIdeal.Run

end
-- ==== Proof.Frames.lean ====
/-
  The frames: of the two readings of the kernel, which have the same text, the run with its result's value dropped; of
  the reference, its run.
-/
module

public import proofs.«01_k».proof.Defs
public import proofs.«01_k».proof.Proof.Run
public import proofs.«01_k».proof.Proof.Gen.Kernel
public import proofs.«01_k».proof.Proof.Gen.ReferenceIdeal.Run
public import Idealize.ShloMosaic.PureOps.BitExact
public import Idealize.ShloMosaic.PureOps.Ideal
public import Idealize.ShloMosaic.Lib.Quiescent

@[expose] public section

noncomputable section

namespace Cert.Proof

open Idealize.ShloMosaic Idealize.SL.Sem

/-- The kernel read over exact values ends with its arguments unchanged and every counter at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.Run.run_main (F := Ideal) m ρ)

/-- The two readings' kernel tables are the same: the programs' texts agree. -/
theorem defs₀_eq : Cert.Kernel.defs₀ (F := Bits) = Cert.KernelIdeal.defs₀ (F := Bits) := by
  refine congrArg Defs.onTc (funext fun ℓ => funext fun x => ?_)
  obtain ⟨n, h⟩ := ℓ
  obtain _ | n := n
  · rfl
  · exact absurd h (Nat.not_lt.2 (Nat.le_add_left _ _))

/-- So are the tables with the pipeline's own labels added. -/
theorem defs_eq : Cert.KernelIdeal.defs (F := Bits) = Cert.Kernel.defs (F := Bits) :=
  congrArg (Pipeline.defs Cert.KernelIdeal.pcfgs) defs₀_eq.symm

/-- The kernel as printed, read over bits, likewise. -/
theorem frame_kernel : Cert.quiescent_Kernel (hKernel := Cert.Kernel.Gen.facts) := fun m ρ _ => by
  have h := (θ_run Cert.KernelIdeal.defs (onTc (τ := Cert.KernelIdeal.τ) (Cert.KernelIdeal.main (F := Bits))) ⟨m, fun _ => 0, ρ⟩).mono
    (fun r h => (⟨fun c => ⟨(h.1 c).1, (h.1 c).2.1⟩, h.2⟩ :
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) ∧ r.2.sem = fun _ => 0))
    (Cert.KernelIdeal.Run.run_main (F := Bits) m ρ)
  rw [defs_eq] at h
  exact h

/-- The reference ends with its arguments unchanged and every counter at zero. -/
theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩) (Cert.ReferenceIdeal.Value.run (F := Ideal) m ρ)

end Cert.Proof

end
-- ==== Proof.Products.lean ====
/-
  The products over exact values. A block product read at an index is a sum of 1024 products, so the finished
  accumulator of step `j` is the whole sum of 8192 products of a row of the device's `x` and a column of `w`.
-/
module

public import proofs.«01_k».proof.Proof.Contents
public import Idealize.ShloMosaic.Lib.MatmulPlain
public import Idealize.ShloMosaic.Lib.ValueIdx
public import Idealize.ShloMosaic.Lib.Pipeline.Value

@[expose] public section

noncomputable section

namespace Cert.KernelIdeal.Run

open Cert.KernelIdeal Cert.KernelIdeal.Gen
open Idealize.ShloMosaic Idealize.ShloMosaic.TcCoe
open Idealize.ShloMosaic.ValueKit Idealize.ShloMosaic.ValueIdx

/-! ## One product -/

/-- A block product at an index: the sum of the 1024 products of the row's and the column's elements. -/
theorem pay1_apply (a : Vec Ideal S2048x1024 .f32) (b : Vec Ideal S1024x1024 .f32) (r : Fin 2048) (q : Fin 1024) :
    k0_pay1 a b (ix2 r q) = ∑ k : Fin 1024, a (ix2 r k) * b (ix2 k q) := by
  unfold k0_pay1
  simp only [shapeCast_self]
  refine (Ideal.matmul_plain_apply none a b _ r q).trans ?_
  rw [constant_apply, Ideal.ofBits_zero_f32, zero_add]

theorem pay2_apply (a : Vec Ideal S2048x1024 .f32) (b : Vec Ideal S1024x1024 .f32) (r : Fin 2048) (q : Fin 1024) :
    k0_pay2 a b (ix2 r q) = ∑ k : Fin 1024, a (ix2 r k) * b (ix2 k q) := by
  unfold k0_pay2
  simp only [shapeCast_self]
  exact pay1_apply a b r q

theorem pay3_apply (a : Vec Ideal S2048x1024 .f32) (b : Vec Ideal S1024x1024 .f32) (acc : Vec Ideal S2048x1024 .f32)
    (r : Fin 2048) (q : Fin 1024) :
    k0_pay3 a b acc (ix2 r q) = acc (ix2 r q) + ∑ k : Fin 1024, a (ix2 r k) * b (ix2 k q) := by
  unfold k0_pay3
  simp only [shapeCast_self]
  exact congrArg (acc (ix2 r q) + ·) (pay1_apply a b r q)

/-- Clipping at zero; the change of format there and back changes nothing. -/
theorem pay6_apply (a : Vec Ideal S2048x1024 .f32) (i : S2048x1024.Idx) : k0_pay6 a i = max (a i) 0 := by
  unfold k0_pay6
  simp only [shapeCast_self]
  exact congrArg (max (a i)) Ideal.ofBits_zero_f32
theorem pay54_apply (a : Vec Ideal S2048x1024 .f32) (i : S2048x1024.Idx) : k0_pay5 (k0_pay4 a) i = max (a i) 0 := by
  unfold k0_pay5 k0_pay4
  simp only [shapeCast_self]
  exact congrArg (max (a i)) Ideal.ofBits_zero_f32

/-! ## The staged blocks -/

variable (m : (ℓ : Loc nD τ sig) → Buf (Elt Ideal) ℓ)

/-- Device `c`'s rows of `x`, -/
abbrev xs (c : Dev nD) : S2048x8192.Idx → EReal := m ((c.tc : Thread nD τ).loc main_arg0)
/-- and its `w`. -/
abbrev ws (c : Dev nD) : S8192x4096.Idx → EReal := m ((c.tc : Thread nD τ).loc main_arg1)

theorem pt_coords (n : ℕ) (h : n < 32) : (grid0.coords (pt n) 0).val = n / 8 ∧ (grid0.coords (pt n) 1).val = n % 8 := by
  interval_cases n <;> decide

/-- The block of `x` at point `n` is block column `n mod 8`. -/
theorem xBlk_apply (c : Dev nD) (n : ℕ) (h : n < 32) (r : Fin 2048) (k : Fin 1024) :
    xBlk m c n (ix2 r k) = xs m c (ix2 r ⟨1024 * (n % 8) + k.val, by omega⟩) := by
  unfold xBlk
  rw [V1_of m c main_arg0 (by decide)]
  refine congrArg (xs m c) (funext fun a => Fin.ext ?_)
  have hc := pt_coords n h
  fin_cases a
  · refine (view_emb_slice_whole_unit_val main_arg0 _ _ _ (ix2 r k) 0).trans ?_
    show cc0_transform_0 (grid0.coords (pt n)) 0 * 2048 + r.val = r.val
    simp [cc0_transform_0]
  · refine (view_emb_slice_whole_unit_val main_arg0 _ _ _ (ix2 r k) 1).trans ?_
    show cc0_transform_0 (grid0.coords (pt n)) 1 * 1024 + k.val = 1024 * (n % 8) + k.val
    rw [show cc0_transform_0 (grid0.coords (pt n)) 1 = n % 8 by
      interval_cases n <;> decide]
    omega

/-- The block of `w` at point `n` is block row `n mod 8` of the block column of the step's destination. -/
theorem wBlk_apply (c : Dev nD) (n : ℕ) (h : n < 32) (k q : Fin 1024) :
    wBlk m c n (ix2 k q) = ws m c (ix2 ⟨1024 * (n % 8) + k.val, by omega⟩
      ⟨1024 * (dst c (n / 8)).val + q.val, by have := (dst c (n / 8)).isLt; have : nD = 4 := rfl; omega⟩) := by
  unfold wBlk
  rw [V1_of m c main_arg1 (by decide)]
  refine congrArg (ws m c) (funext fun a => Fin.ext ?_)
  have hc := pt_coords n h
  have ht := transform_1_tbl (F := Ideal) c (grid0.coords (pt n))
  fin_cases a
  · refine (view_emb_slice_whole_unit_val main_arg1 _ _ _ (ix2 k q) 0).trans ?_
    show cc0_transform_1 (F := Ideal) inb_S1_S1_0 numel1_S1 (tbl c) (grid0.coords (pt n)) 0 * 1024 + k.val = 1024 * (n % 8) + k.val
    rw [ht, show (![(grid0.coords (pt n) 1).val, (dst c (grid0.coords (pt n) 0).val).val] : Fin 2 → ℕ) 0 = n % 8 from hc.2]
    omega
  · refine (view_emb_slice_whole_unit_val main_arg1 _ _ _ (ix2 k q) 1).trans ?_
    show cc0_transform_1 (F := Ideal) inb_S1_S1_0 numel1_S1 (tbl c) (grid0.coords (pt n)) 1 * 1024 + q.val = 1024 * (dst c (n / 8)).val + q.val
    rw [ht, show (![(grid0.coords (pt n) 1).val, (dst c (grid0.coords (pt n) 0).val).val] : Fin 2 → ℕ) 1 = (dst c (n / 8)).val by
      rw [← hc.1]; rfl]
    omega

/-! ## The accumulator -/

/-- The product of element `t` of row `r` of `x` and element `t` of column `q` of `w`. -/
def term (x : S2048x8192.Idx → EReal) (w : S8192x4096.Idx → EReal) (r : Fin 2048) (q : Fin 4096) (t : ℕ) : EReal :=
  if h : t < 8192 then x (ix2 r ⟨t, h⟩) * w (ix2 ⟨t, h⟩ q) else 0

/-- Column `q` of the block of columns of device `d`. -/
abbrev col (d : Dev nD) (q : Fin 1024) : Fin 4096 :=
  ⟨1024 * d.val + q.val, by have := d.isLt; have : nD = 4 := rfl; omega⟩

/-- The block product at a point is the sum of its 1024 terms. -/
theorem point_sum (c : Dev nD) (n : ℕ) (h : n < 32) (r : Fin 2048) (q : Fin 1024) :
    ∑ k : Fin 1024, xBlk m c n (ix2 r k) * wBlk m c n (ix2 k q)
      = ∑ k ∈ Finset.range 1024, term (xs m c) (ws m c) r (col (dst c (n / 8)) q) (1024 * (n % 8) + k) := by
  rw [Finset.sum_range]
  refine Finset.sum_congr rfl fun k _ => ?_
  rw [xBlk_apply m c n h, wBlk_apply m c n h, term, dif_pos (by omega)]

/-- After point `k` of step `j` the accumulator holds the sum of the first `1024 (k + 1)` terms. -/
theorem acc_apply (c : Dev nD) (j : ℕ) (hj : j < 4) (k : ℕ) (hk : k < 8) (r : Fin 2048) (q : Fin 1024) :
    accS m c (8 * j + k) (ix2 r q) = ∑ t ∈ Finset.range (1024 * (k + 1)), term (xs m c) (ws m c) r (col (dst c j) q) t := by
  induction k with
  | zero =>
    rw [accS_start m c _ (by omega), pay2_apply, point_sum m c _ (by omega), show (8 * j + 0) / 8 = j by omega,
      show (8 * j + 0) % 8 = 0 by omega]
    simp
  | succ k ih =>
    rw [show 8 * j + (k + 1) = 8 * j + k + 1 by omega, accS_step m c _ (by omega), pay3_apply, ih (by omega),
      point_sum m c _ (by omega), show (8 * j + k + 1) / 8 = j by omega, show (8 * j + k + 1) % 8 = k + 1 by omega,
      show 1024 * (k + 1 + 1) = 1024 * (k + 1) + 1024 by omega, Finset.sum_range_add]

/-- The finished accumulator of step `j`: the row of `x` times the column of `w`. -/
theorem acc_done (c : Dev nD) (j : ℕ) (hj : j < 4) (r : Fin 2048) (q : Fin 1024) :
    accS m c (8 * j + 7) (ix2 r q) = ∑ t : Fin 8192, xs m c (ix2 r t) * ws m c (ix2 t (col (dst c j) q)) := by
  rw [acc_apply m c j hj 7 (by omega), Finset.sum_range]
  exact Finset.sum_congr rfl fun t _ => dif_pos t.isLt

/-- Block `R` of device `c`'s result, at an index: device `src c R`'s row of `x` times a column of its `w` among
    device `c`'s, clipped at zero. -/
theorem outBlk_apply (c : Dev nD) (R : ℕ) (hR : R < 4) (r : Fin 2048) (q : Fin 1024) :
    outBlk m c R (ix2 r q) = max (∑ t : Fin 8192, xs m (src c R) (ix2 r t) * ws m (src c R) (ix2 t (col c q))) 0 := by
  unfold outBlk
  split
  · next h =>
    subst h
    rw [pay6_apply, acc_done m c 3 (by omega), dst_three, src_zero]
  · next h =>
    obtain ⟨j, rfl⟩ : ∃ j, R = j + 1 := ⟨R - 1, by omega⟩
    unfold msg
    rw [pay54_apply, acc_done m _ (j + 1 - 1) (by omega), show j + 1 - 1 = (⟨j, by omega⟩ : Fin 3).val by simp]
    rw [dst_src c ⟨j, by omega⟩]

end Cert.KernelIdeal.Run

end
-- ==== Proof.Value.lean ====
/-
  The equation of the values: over exact values each device's result is its block of columns of the reference's result.
-/
module

public import proofs.«01_k».proof.Defs
public import proofs.«01_k».proof.Proof.Run
public import proofs.«01_k».proof.Proof.Products
public import proofs.«01_k».proof.Proof.Gen.ReferenceIdeal.Run
public import Idealize.ShloMosaic.Lib.StackMember

@[expose] public section

noncomputable section

namespace Cert.Proof

open Idealize.ShloMosaic Idealize.ShloMosaic.TcCoe Idealize.SL.Sem Idealize.ShloMosaic.ValueIdx
open Cert.KernelIdeal.Run

/-- The reference's result: the product of `x` and `w`, clipped at zero. -/
abbrev refOut (x : FVec Ideal Cert.ReferenceIdeal.S8192x8192 .f32) (w : FVec Ideal Cert.ReferenceIdeal.S8192x4096 .f32) :
    FVec Ideal Cert.ReferenceIdeal.S8192x4096 .f32 :=
  maximumf (Host.dotGeneral (@Cert.ReferenceIdeal.dot_S8192x8192_S8192x4096_S8192x4096_1_0_0_1_n_n Cert.ReferenceIdeal.Gen.facts₀) none x w)
    (broadcastInDim Cert.ReferenceIdeal.S8192x4096 ![] Cert.ReferenceIdeal.Gen.bcast_S_S8192x4096 (constant Cert.ReferenceIdeal.S_ .f32 0x00000000#32))

/-- The reference's result at an index: a row of `x` times a column of `w`, clipped at zero. -/
theorem refOut_apply (x : FVec Ideal Cert.ReferenceIdeal.S8192x8192 .f32) (w : FVec Ideal Cert.ReferenceIdeal.S8192x4096 .f32)
    (r : Fin 8192) (q : Fin 4096) : refOut x w (ix2 r q) = max (∑ t : Fin 8192, x (ix2 r t) * w (ix2 t q)) 0 := by
  refine congrArg₂ max ?_ Ideal.ofBits_zero_f32
  exact StackMember.dotGeneral_plain_apply none x w r q

/-- Where each device holds its rows of `x` and all of `w`, device `c`'s result is its columns of the reference's. -/
theorem out_eq (m : (ℓ : Loc Cert.KernelIdeal.nD Cert.KernelIdeal.τ Cert.KernelIdeal.sig) → Buf (Elt Ideal) ℓ)
    (x : FVec Ideal Cert.ReferenceIdeal.S8192x8192 .f32) (w : FVec Ideal Cert.ReferenceIdeal.S8192x4096 .f32)
    (hx : ∀ c : Dev Cert.KernelIdeal.nD, xs m c = Layout.block ⟨2, ![2048, 8192]⟩ ⟨2, ![8192, 8192]⟩ 0 4 c x)
    (hw : ∀ c : Dev Cert.KernelIdeal.nD, ws m c = w) (c : Dev Cert.KernelIdeal.nD) :
    OUT m c = Layout.block ⟨2, ![8192, 1024]⟩ ⟨2, ![8192, 4096]⟩ 1 4 c (refOut x w) := by
  funext (i : (⟨2, ![8192, 1024]⟩ : Shape).Idx)
  obtain ⟨p, q, rfl⟩ : ∃ (p : Fin 8192) (q : Fin 1024), i = ix2 p q := ⟨i 0, i 1, eq_ix2 i⟩
  have hc : c.val < 4 := c.isLt
  have hd : p.val / 2048 < 4 := by omega
  have hsrc : ∀ (c : Dev Cert.KernelIdeal.nD) (b : Fin 4), (src c ((c.val + 4 - b.val) % 4)).val = b.val := by decide
  -- the reference's side
  rw [Layout.block_apply]
  have hidx : (Layout.Tiles.idx (S := ⟨2, ![8192, 1024]⟩) (T := ⟨2, ![8192, 4096]⟩) (a := 1) (k := 4) (by decide) c (ix2 p q))
      = ix2 p (col c q) := by
    funext a
    apply Fin.ext
    fin_cases a
    · rfl
    · show c.val * 1024 + q.val = 1024 * c.val + q.val
      omega
  rw [hidx, refOut_apply]
  -- the kernel's side
  have hO : OUT m c (ix2 p q) = outBlk m c ((c.val + 4 - p.val / 2048) % 4) (ix2 ⟨p.val % 2048, Nat.mod_lt _ (by decide)⟩ q) := by
    unfold OUT
    congr 1
    funext a
    fin_cases a <;> rfl
  rw [hO, outBlk_apply m c _ (Nat.mod_lt _ (by decide))]
  refine congrArg (fun y : EReal => max y 0) (Finset.sum_congr rfl fun t _ => ?_)
  rw [hw, hx, Layout.block_apply]
  refine congrArg (fun i => x i * w (ix2 t (col c q))) (funext fun a => Fin.ext ?_)
  have hs := hsrc c ⟨p.val / 2048, hd⟩
  fin_cases a
  · show (src c ((c.val + 4 - p.val / 2048) % 4)).val * 2048 + p.val % 2048 = p.val
    rw [show (src c ((c.val + 4 - p.val / 2048) % 4)).val = p.val / 2048 from hs]
    omega
  · rfl

/-- Both run over exact values, and each device's result is its block of columns of the reference's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩)
      (run_main (F := Ideal) m ρ)
    exact out_eq m _ _ (fun c => (hagree c).1) (fun c => (hagree c).2) c
  · exact (θ_run Cert.ReferenceIdeal.defs _ _).mono (fun _ h => h 0) (Cert.ReferenceIdeal.Value.run (F := Ideal) m' ρ')

end Cert.Proof

end
-- ==== Proof.lean ====
/-
  The proof of the five claims: the three frames, `preserves`, and the equation of the kernel's result with the
  reference's over exact values. Module by module:

    Words, Contents   the words the kernel computes, and what its buffers hold
    Proto             the semaphores' rounds: what each signal and each transfer carries
    Steps, Cases, Last, Points, Body   the body at a grid point
    Buffers, Region, Segment           the buffers' pieces, and the pipeline as a whole
    Launch, Run       the launch, and the run of the program on its four devices, over any float values
    Frames            the run with its result's value dropped, and the reference's
    Products, Value   the products over exact values, and the equation
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
